-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x512x4 : Shape := ⟨3, ![32768, 512, 4]⟩
abbrev S512x10 : Shape := ⟨2, ![512, 10]⟩
abbrev S512x4 : Shape := ⟨2, ![512, 4]⟩
abbrev S_ : Shape := ⟨0, ![]⟩

class Facts : Prop where
  bcast_S_S512x10 : S_.BroadcastsInDim S512x10 (![] : Fin 0 → Fin S512x10.rank)

variable [Facts]

def fn {F : FTy → Type} [FloatOps F] (main_arg0 : FVec F S32768x512x4 .f32) (main_arg1 : FVec F S512x10 .f32) (main_arg2 : FVec F S512x4 .f32) : IVec S512x10 1 :=
  let main_v0 : FVec F S512x10 .f32 := Host.absf main_arg1
  let main_cst : FVec F S_ .f32 := constant S_ .f32 0x7F800000#32
  let main_v1 : FVec F S512x10 .f32 := broadcastInDim S512x10 ![] bcast_S_S512x10 main_cst
  let main_v2 : IVec S512x10 1 := cmpf .olt main_v0 main_v1
  main_v2
-- ==== Kernel.lean ====
abbrev S32768x512x4 : Shape := ⟨3, ![32768, 512, 4]⟩
abbrev S512x10 : Shape := ⟨2, ![512, 10]⟩
abbrev S512x4 : Shape := ⟨2, ![512, 4]⟩
abbrev S32768x4x512 : Shape := ⟨3, ![32768, 4, 512]⟩
abbrev S2x8x512 : Shape := ⟨3, ![2, 8, 512]⟩
abbrev S2x16x512 : Shape := ⟨3, ![2, 16, 512]⟩
abbrev S1024x4x512 : Shape := ⟨3, ![1024, 4, 512]⟩
abbrev S1x8x512 : Shape := ⟨3, ![1, 8, 512]⟩
abbrev S1x16x512 : Shape := ⟨3, ![1, 16, 512]⟩
abbrev S16x512 : Shape := ⟨2, ![16, 512]⟩
abbrev S16x1x512 : Shape := ⟨3, ![16, 1, 512]⟩
abbrev S512 : Shape := ⟨1, ![512]⟩
abbrev S1x512 : Shape := ⟨2, ![1, 512]⟩
abbrev S4x512 : Shape := ⟨2, ![4, 512]⟩
abbrev S8x512 : Shape := ⟨2, ![8, 512]⟩
abbrev S6x512 : Shape := ⟨2, ![6, 512]⟩
abbrev S1x4x512 : Shape := ⟨3, ![1, 4, 512]⟩
abbrev S10x512 : Shape := ⟨2, ![10, 512]⟩
abbrev S_ : Shape := ⟨0, ![]⟩
abbrev S32x512 : Shape := ⟨2, ![32, 512]⟩
abbrev S24x512 : Shape := ⟨2, ![24, 512]⟩
abbrev S20x512 : Shape := ⟨2, ![20, 512]⟩

abbrev nBuf : Space → Nat
  | .hbm => 26
  | .vmem => 13
  | .smem => 0
  | _ => 0

abbrev bufTy : (tb : Table) → Fin (tcTables nBuf tb) → BufTy
  | .hbm, ⟨0, _⟩ => ⟨S32768x512x4, .f32⟩
  | .hbm, ⟨1, _⟩ => ⟨S512x10, .f32⟩
  | .hbm, ⟨2, _⟩ => ⟨S512x4, .f32⟩
  | .hbm, ⟨3, _⟩ => ⟨S32768x4x512, .f32⟩
  | .hbm, ⟨4, _⟩ => ⟨S2x8x512, .f32⟩
  | .hbm, ⟨5, _⟩ => ⟨S2x16x512, .f32⟩
  | .hbm, ⟨6, _⟩ => ⟨S1x4x512, .f32⟩
  | .hbm, ⟨7, _⟩ => ⟨S4x512, .f32⟩
  | .hbm, ⟨8, _⟩ => ⟨S1x4x512, .f32⟩
  | .hbm, ⟨9, _⟩ => ⟨S4x512, .f32⟩
  | .hbm, ⟨10, _⟩ => ⟨S4x512, .f32⟩
  | .hbm, ⟨11, _⟩ => ⟨S1x16x512, .f32⟩
  | .hbm, ⟨12, _⟩ => ⟨S16x512, .f32⟩
  | .hbm, ⟨13, _⟩ => ⟨S1x16x512, .f32⟩
  | .hbm, ⟨14, _⟩ => ⟨S16x512, .f32⟩
  | .hbm, ⟨15, _⟩ => ⟨S16x512, .f32⟩
  | .hbm, ⟨16, _⟩ => ⟨S10x512, .f32⟩
  | .hbm, ⟨17, _⟩ => ⟨S10x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S32x512, .f32⟩
  | .hbm, ⟨22, _⟩ => ⟨S24x512, .f32⟩
  | .hbm, ⟨23, _⟩ => ⟨S20x512, .f32⟩
  | .hbm, ⟨24, _⟩ => ⟨S32768x4x512, .f32⟩
  | .hbm, ⟨25, _⟩ => ⟨S32768x512x4, .f32⟩
  | .local _ .vmem, ⟨0, _⟩ => ⟨S1024x4x512, .f32⟩
  | .local _ .vmem, ⟨1, _⟩ => ⟨S1024x4x512, .f32⟩
  | .local _ .vmem, ⟨2, _⟩ => ⟨S1x8x512, .f32⟩
  | .local _ .vmem, ⟨3, _⟩ => ⟨S1x8x512, .f32⟩
  | .local _ .vmem, ⟨4, _⟩ => ⟨S1x16x512, .f32⟩
  | .local _ .vmem, ⟨5, _⟩ => ⟨S1x16x512, .f32⟩
  | .local _ .vmem, ⟨6, _⟩ => ⟨S32x512, .f32⟩
  | .local _ .vmem, ⟨7, _⟩ => ⟨S24x512, .f32⟩
  | .local _ .vmem, ⟨8, _⟩ => ⟨S24x512, .f32⟩
  | .local _ .vmem, ⟨9, _⟩ => ⟨S1024x4x512, .f32⟩
  | .local _ .vmem, ⟨10, _⟩ => ⟨S1024x4x512, .f32⟩
  | .local _ .vmem, ⟨11, _⟩ => ⟨S1024x4x512, .f32⟩
  | .local _ .vmem, ⟨12, _⟩ => ⟨S1024x4x512, .f32⟩
  | _, _ => ⟨S32768x512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v2082 : BitVec 32 := Scalar.extui v0
  let c0_i32_717 : BitVec 32 := 0#32
  let v2083 : BitVec 1 := Scalar.cmpi .ne v2082 c0_i32_717
  v2083

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v2084 : BitVec 1 := Scalar.xori v0 v_true
  let v2085 : BitVec 32 := Scalar.extui v2084
  let c0_i32_718 : BitVec 32 := 0#32
  let v2086 : BitVec 1 := Scalar.cmpi .ne v2085 c0_i32_718
  v2086

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := .none

abbrev stage1_0 : Fin 1 → Memref sig .tc .vmem S32x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S24x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage2_0 : Fin 1 → Memref sig .tc .vmem S24x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x4x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x4x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S32768x512x4 : Shape := ⟨3, ![32768, 512, 4]⟩
abbrev S512x10 : Shape := ⟨2, ![512, 10]⟩
abbrev S512x4 : Shape := ⟨2, ![512, 4]⟩
abbrev S_ : Shape := ⟨0, ![]⟩
abbrev S1x512x4 : Shape := ⟨3, ![1, 512, 4]⟩
abbrev S512x4x4 : Shape := ⟨3, ![512, 4, 4]⟩
abbrev S4x4 : Shape := ⟨2, ![4, 4]⟩
abbrev S1x4x4 : Shape := ⟨3, ![1, 4, 4]⟩
abbrev S512 : Shape := ⟨1, ![512]⟩
abbrev S512x1x1 : Shape := ⟨3, ![512, 1, 1]⟩
abbrev S512x1 : Shape := ⟨2, ![512, 1]⟩
abbrev S512x1x4 : Shape := ⟨3, ![512, 1, 4]⟩
abbrev S512x32768x4 : Shape := ⟨3, ![512, 32768, 4]⟩

abbrev nBuf : Space → Nat
  | .hbm => 281
  | .vmem => 0
  | .smem => 0
  | _ => 0

abbrev hbmTy0_0 (i : Nat) : BufTy := match i % 128 with
  | 0 => ⟨S32768x512x4, .f32⟩
  | 1 => ⟨S512x10, .f32⟩
  | 2 => ⟨S512x4, .f32⟩
  | 3 => ⟨S_, .f32⟩
  | 4 => ⟨S512x4, .f32⟩
  | 5 => ⟨S_, .f32⟩
  | 6 => ⟨S512x4, .f32⟩
  | 7 => ⟨S512x4, .f32⟩
  | 8 => ⟨S1x512x4, .f32⟩
  | 9 => ⟨S32768x512x4, .f32⟩
  | 10 => ⟨S32768x512x4, .f32⟩
  | 11 => ⟨S512x4x4, .f32⟩
  | 12 => ⟨S_, .f32⟩
  | 13 => ⟨S512x4x4, .f32⟩
  | 14 => ⟨S512x4x4, .f32⟩
  | 15 => ⟨S4x4, .i32⟩
  | 16 => ⟨S4x4, .i32⟩
  | 17 => ⟨S_, .i32⟩
  | 18 => ⟨S4x4, .i32⟩
  | 19 => ⟨S4x4, .i32⟩
  | 20 => ⟨S4x4, .i1⟩
  | 21 => ⟨S4x4, .f32⟩
  | 22 => ⟨S_, .f32⟩
  | 23 => ⟨S4x4, .f32⟩
  | 24 => ⟨S4x4, .f32⟩
  | 25 => ⟨S1x4x4, .f32⟩
  | 26 => ⟨S512x4x4, .f32⟩
  | 27 => ⟨S512x4x4, .f32⟩
  | 28 => ⟨S_, .f32⟩
  | 29 => ⟨S512, .f32⟩
  | 30 => ⟨S_, .f32⟩
  | 31 => ⟨S512, .f32⟩
  | 32 => ⟨S_, .f32⟩
  | 33 => ⟨S512, .f32⟩
  | 34 => ⟨S_, .f32⟩
  | 35 => ⟨S512, .f32⟩
  | 36 => ⟨S_, .f32⟩
  | 37 => ⟨S512, .f32⟩
  | 38 => ⟨S_, .f32⟩
  | 39 => ⟨S512, .f32⟩
  | 40 => ⟨S_, .f32⟩
  | 41 => ⟨S512, .f32⟩
  | 42 => ⟨S_, .f32⟩
  | 43 => ⟨S512, .f32⟩
  | 44 => ⟨S_, .f32⟩
  | 45 => ⟨S512, .f32⟩
  | 46 => ⟨S_, .f32⟩
  | 47 => ⟨S512, .f32⟩
  | 48 => ⟨S_, .f32⟩
  | 49 => ⟨S512, .f32⟩
  | 50 => ⟨S_, .f32⟩
  | 51 => ⟨S512, .f32⟩
  | 52 => ⟨S_, .f32⟩
  | 53 => ⟨S512, .f32⟩
  | 54 => ⟨S_, .f32⟩
  | 55 => ⟨S512, .f32⟩
  | 56 => ⟨S_, .f32⟩
  | 57 => ⟨S512, .f32⟩
  | 58 => ⟨S_, .f32⟩
  | 59 => ⟨S512, .f32⟩
  | 60 => ⟨S512x1x1, .f32⟩
  | 61 => ⟨S512, .f32⟩
  | 62 => ⟨S512, .f32⟩
  | 63 => ⟨S512x1x1, .f32⟩
  | 64 => ⟨S512, .f32⟩
  | 65 => ⟨S512, .f32⟩
  | 66 => ⟨S512x1x1, .f32⟩
  | 67 => ⟨S512, .f32⟩
  | 68 => ⟨S512, .f32⟩
  | 69 => ⟨S512x1x1, .f32⟩
  | 70 => ⟨S512, .f32⟩
  | 71 => ⟨S512, .f32⟩
  | 72 => ⟨S512x1x1, .f32⟩
  | 73 => ⟨S512, .f32⟩
  | 74 => ⟨S512, .f32⟩
  | 75 => ⟨S512, .f32⟩
  | 76 => ⟨S512, .f32⟩
  | 77 => ⟨S512x1x1, .f32⟩
  | 78 => ⟨S512, .f32⟩
  | 79 => ⟨S512, .f32⟩
  | 80 => ⟨S512, .f32⟩
  | 81 => ⟨S512, .f32⟩
  | 82 => ⟨S512x1x1, .f32⟩
  | 83 => ⟨S512, .f32⟩
  | 84 => ⟨S512, .f32⟩
  | 85 => ⟨S512, .f32⟩
  | 86 => ⟨S512, .f32⟩
  | 87 => ⟨S512x1x1, .f32⟩
  | 88 => ⟨S512, .f32⟩
  | 89 => ⟨S512, .f32⟩
  | 90 => ⟨S512, .f32⟩
  | 91 => ⟨S512, .f32⟩
  | 92 => ⟨S512, .f32⟩
  | 93 => ⟨S512, .f32⟩
  | 94 => ⟨S512x1x1, .f32⟩
  | 95 => ⟨S512, .f32⟩
  | 96 => ⟨S512, .f32⟩
  | 97 => ⟨S512, .f32⟩
  | 98 => ⟨S512, .f32⟩
  | 99 => ⟨S512, .f32⟩
  | 100 => ⟨S512, .f32⟩
  | 101 => ⟨S512x1x1, .f32⟩
  | 102 => ⟨S512, .f32⟩
  | 103 => ⟨S512, .f32⟩
  | 104 => ⟨S512, .f32⟩
  | 105 => ⟨S512, .f32⟩
  | 106 => ⟨S512, .f32⟩
  | 107 => ⟨S512, .f32⟩
  | 108 => ⟨S512, .f32⟩
  | 109 => ⟨S512, .f32⟩
  | 110 => ⟨S_, .f32⟩
  | 111 => ⟨S512, .f32⟩
  | 112 => ⟨S_, .f32⟩
  | 113 => ⟨S512, .f32⟩
  | 114 => ⟨S_, .f32⟩
  | 115 => ⟨S512, .f32⟩
  | 116 => ⟨S_, .f32⟩
  | 117 => ⟨S512, .f32⟩
  | 118 => ⟨S_, .f32⟩
  | 119 => ⟨S512, .f32⟩
  | 120 => ⟨S_, .f32⟩
  | 121 => ⟨S512, .f32⟩
  | 122 => ⟨S_, .f32⟩
  | 123 => ⟨S512, .f32⟩
  | 124 => ⟨S_, .f32⟩
  | 125 => ⟨S512, .f32⟩
  | 126 => ⟨S_, .f32⟩
  | 127 => ⟨S512, .f32⟩
  | _ => ⟨S32768x512x4, .f32⟩

abbrev hbmTy0_1 (i : Nat) : BufTy := match i % 128 with
  | 0 => ⟨S_, .f32⟩
  | 1 => ⟨S512, .f32⟩
  | 2 => ⟨S_, .f32⟩
  | 3 => ⟨S512, .f32⟩
  | 4 => ⟨S_, .f32⟩
  | 5 => ⟨S512, .f32⟩
  | 6 => ⟨S_, .f32⟩
  | 7 => ⟨S512, .f32⟩
  | 8 => ⟨S_, .f32⟩
  | 9 => ⟨S512, .f32⟩
  | 10 => ⟨S_, .f32⟩
  | 11 => ⟨S512, .f32⟩
  | 12 => ⟨S_, .f32⟩
  | 13 => ⟨S512, .f32⟩
  | 14 => ⟨S_, .f32⟩
  | 15 => ⟨S512, .f32⟩
  | 16 => ⟨S512, .f32⟩
  | 17 => ⟨S_, .f32⟩
  | 18 => ⟨S512, .f32⟩
  | 19 => ⟨S512, .f32⟩
  | 20 => ⟨S512, .f32⟩
  | 21 => ⟨S512, .f32⟩
  | 22 => ⟨S_, .f32⟩
  | 23 => ⟨S512, .f32⟩
  | 24 => ⟨S512, .f32⟩
  | 25 => ⟨S512, .f32⟩
  | 26 => ⟨S512, .f32⟩
  | 27 => ⟨S512, .f32⟩
  | 28 => ⟨S512, .f32⟩
  | 29 => ⟨S_, .f32⟩
  | 30 => ⟨S512, .f32⟩
  | 31 => ⟨S512, .f32⟩
  | 32 => ⟨S512, .f32⟩
  | 33 => ⟨S512, .f32⟩
  | 34 => ⟨S512, .f32⟩
  | 35 => ⟨S512, .f32⟩
  | 36 => ⟨S512, .f32⟩
  | 37 => ⟨S512, .f32⟩
  | 38 => ⟨S_, .f32⟩
  | 39 => ⟨S512, .f32⟩
  | 40 => ⟨S512, .f32⟩
  | 41 => ⟨S_, .f32⟩
  | 42 => ⟨S512, .f32⟩
  | 43 => ⟨S512, .f32⟩
  | 44 => ⟨S512, .f32⟩
  | 45 => ⟨S512, .f32⟩
  | 46 => ⟨S_, .f32⟩
  | 47 => ⟨S512, .f32⟩
  | 48 => ⟨S512, .f32⟩
  | 49 => ⟨S512, .f32⟩
  | 50 => ⟨S512, .f32⟩
  | 51 => ⟨S512, .f32⟩
  | 52 => ⟨S512, .f32⟩
  | 53 => ⟨S_, .f32⟩
  | 54 => ⟨S512, .f32⟩
  | 55 => ⟨S512, .f32⟩
  | 56 => ⟨S_, .f32⟩
  | 57 => ⟨S512, .f32⟩
  | 58 => ⟨S512, .f32⟩
  | 59 => ⟨S512, .f32⟩
  | 60 => ⟨S512, .f32⟩
  | 61 => ⟨S_, .f32⟩
  | 62 => ⟨S512, .f32⟩
  | 63 => ⟨S512, .f32⟩
  | 64 => ⟨S512x1, .f32⟩
  | 65 => ⟨S512x1, .f32⟩
  | 66 => ⟨S512x1, .f32⟩
  | 67 => ⟨S512x1, .f32⟩
  | 68 => ⟨S512x4, .f32⟩
  | 69 => ⟨S512x1, .f32⟩
  | 70 => ⟨S512x1, .f32⟩
  | 71 => ⟨S512x1, .f32⟩
  | 72 => ⟨S512x1, .f32⟩
  | 73 => ⟨S512x4, .f32⟩
  | 74 => ⟨S512x1, .f32⟩
  | 75 => ⟨S512x1, .f32⟩
  | 76 => ⟨S512x1, .f32⟩
  | 77 => ⟨S512x1, .f32⟩
  | 78 => ⟨S512x4, .f32⟩
  | 79 => ⟨S512x1, .f32⟩
  | 80 => ⟨S512x1, .f32⟩
  | 81 => ⟨S512x1, .f32⟩
  | 82 => ⟨S512x1, .f32⟩
  | 83 => ⟨S512x4, .f32⟩
  | 84 => ⟨S512x1x4, .f32⟩
  | 85 => ⟨S512x1x4, .f32⟩
  | 86 => ⟨S512x1x4, .f32⟩
  | 87 => ⟨S512x1x4, .f32⟩
  | 88 => ⟨S512x4x4, .f32⟩
  | 89 => ⟨S512x32768x4, .f32⟩
  | 90 => ⟨S32768x512x4, .f32⟩
  | 91 => ⟨S512x1, .f32⟩
  | 92 => ⟨S512, .f32⟩
  | 93 => ⟨S512x1, .f32⟩
  | 94 => ⟨S512, .f32⟩
  | 95 => ⟨S512x1, .f32⟩
  | 96 => ⟨S512, .f32⟩
  | 97 => ⟨S512x1, .f32⟩
  | 98 => ⟨S512, .f32⟩
  | 99 => ⟨S512x1, .f32⟩
  | 100 => ⟨S512x1, .f32⟩
  | 101 => ⟨S512x1, .f32⟩
  | 102 => ⟨S512x1, .f32⟩
  | 103 => ⟨S512x4, .f32⟩
  | 104 => ⟨S512x1, .f32⟩
  | 105 => ⟨S512, .f32⟩
  | 106 => ⟨S512x1, .f32⟩
  | 107 => ⟨S512, .f32⟩
  | 108 => ⟨S512x1, .f32⟩
  | 109 => ⟨S512, .f32⟩
  | 110 => ⟨S512x1, .f32⟩
  | 111 => ⟨S512, .f32⟩
  | 112 => ⟨S512x1, .f32⟩
  | 113 => ⟨S512x1, .f32⟩
  | 114 => ⟨S512x1, .f32⟩
  | 115 => ⟨S512x1, .f32⟩
  | 116 => ⟨S512x4, .f32⟩
  | 117 => ⟨S512x1, .f32⟩
  | 118 => ⟨S512, .f32⟩
  | 119 => ⟨S512x1, .f32⟩
  | 120 => ⟨S512, .f32⟩
  | 121 => ⟨S512x1, .f32⟩
  | 122 => ⟨S512, .f32⟩
  | 123 => ⟨S512x1, .f32⟩
  | 124 => ⟨S512, .f32⟩
  | 125 => ⟨S512x1, .f32⟩
  | 126 => ⟨S512x1, .f32⟩
  | 127 => ⟨S512x1, .f32⟩
  | _ => ⟨S32768x512x4, .f32⟩

abbrev hbmTy0_2 (i : Nat) : BufTy := match i % 128 with
  | 0 => ⟨S512x1, .f32⟩
  | 1 => ⟨S512x4, .f32⟩
  | 2 => ⟨S512x1, .f32⟩
  | 3 => ⟨S512, .f32⟩
  | 4 => ⟨S512x1, .f32⟩
  | 5 => ⟨S512, .f32⟩
  | 6 => ⟨S512x1, .f32⟩
  | 7 => ⟨S512, .f32⟩
  | 8 => ⟨S512x1, .f32⟩
  | 9 => ⟨S512, .f32⟩
  | 10 => ⟨S512x1, .f32⟩
  | 11 => ⟨S512x1, .f32⟩
  | 12 => ⟨S512x1, .f32⟩
  | 13 => ⟨S512x1, .f32⟩
  | 14 => ⟨S512x4, .f32⟩
  | 15 => ⟨S512x1x4, .f32⟩
  | 16 => ⟨S512x1x4, .f32⟩
  | 17 => ⟨S512x1x4, .f32⟩
  | 18 => ⟨S512x1x4, .f32⟩
  | 19 => ⟨S512x4x4, .f32⟩
  | 20 => ⟨S512x32768x4, .f32⟩
  | 21 => ⟨S32768x512x4, .f32⟩
  | 22 => ⟨S1x512x4, .f32⟩
  | 23 => ⟨S32768x512x4, .f32⟩
  | 24 => ⟨S32768x512x4, .f32⟩
  | _ => ⟨S32768x512x4, .f32⟩

abbrev hbmTy (i : Nat) : BufTy := match i / 128 with
  | 0 => hbmTy0_0 i
  | 1 => hbmTy0_1 i
  | 2 => hbmTy0_2 i
  | _ => ⟨S32768x512x4, .f32⟩

abbrev bufTy : (tb : Table) → Fin (tcTables nBuf tb) → BufTy
  | .hbm, ⟨i, _⟩ => hbmTy i
  | _, _ => ⟨S32768x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_cst_11 : Ref sig .tc := ⟨.hbm, 44, rfl⟩
abbrev main_v28 : Ref sig .tc := ⟨.hbm, 45, rfl⟩
abbrev main_cst_12 : Ref sig .tc := ⟨.hbm, 46, rfl⟩
abbrev main_v29 : Ref sig .tc := ⟨.hbm, 47, rfl⟩
abbrev main_cst_13 : Ref sig .tc := ⟨.hbm, 48, rfl⟩
abbrev main_v30 : Ref sig .tc := ⟨.hbm, 49, rfl⟩
abbrev main_cst_14 : Ref sig .tc := ⟨.hbm, 50, rfl⟩
abbrev main_v31 : Ref sig .tc := ⟨.hbm, 51, rfl⟩
abbrev main_cst_15 : Ref sig .tc := ⟨.hbm, 52, rfl⟩
abbrev main_v32 : Ref sig .tc := ⟨.hbm, 53, rfl⟩
abbrev main_cst_16 : Ref sig .tc := ⟨.hbm, 54, rfl⟩
abbrev main_v33 : Ref sig .tc := ⟨.hbm, 55, rfl⟩
abbrev main_cst_17 : Ref sig .tc := ⟨.hbm, 56, rfl⟩
abbrev main_v34 : Ref sig .tc := ⟨.hbm, 57, rfl⟩
abbrev main_cst_18 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_19 : Ref sig .tc := ⟨.hbm, 110, rfl⟩
abbrev main_v86 : Ref sig .tc := ⟨.hbm, 111, rfl⟩
abbrev main_cst_20 : Ref sig .tc := ⟨.hbm, 112, rfl⟩
abbrev main_v87 : Ref sig .tc := ⟨.hbm, 113, rfl⟩
abbrev main_cst_21 : Ref sig .tc := ⟨.hbm, 114, rfl⟩
abbrev main_v88 : Ref sig .tc := ⟨.hbm, 115, rfl⟩
abbrev main_cst_22 : Ref sig .tc := ⟨.hbm, 116, rfl⟩
abbrev main_v89 : Ref sig .tc := ⟨.hbm, 117, rfl⟩
abbrev main_cst_23 : Ref sig .tc := ⟨.hbm, 118, rfl⟩
abbrev main_v90 : Ref sig .tc := ⟨.hbm, 119, rfl⟩
abbrev main_cst_24 : Ref sig .tc := ⟨.hbm, 120, rfl⟩
abbrev main_v91 : Ref sig .tc := ⟨.hbm, 121, rfl⟩
abbrev main_cst_25 : Ref sig .tc := ⟨.hbm, 122, rfl⟩
abbrev main_v92 : Ref sig .tc := ⟨.hbm, 123, rfl⟩
abbrev main_cst_26 : Ref sig .tc := ⟨.hbm, 124, rfl⟩
abbrev main_v93 : Ref sig .tc := ⟨.hbm, 125, rfl⟩
abbrev main_cst_27 : Ref sig .tc := ⟨.hbm, 126, rfl⟩
abbrev main_v94 : Ref sig .tc := ⟨.hbm, 127, rfl⟩
abbrev main_cst_28 : Ref sig .tc := ⟨.hbm, 128, rfl⟩
abbrev main_v95 : Ref sig .tc := ⟨.hbm, 129, rfl⟩
abbrev main_cst_29 : Ref sig .tc := ⟨.hbm, 130, rfl⟩
abbrev main_v96 : Ref sig .tc := ⟨.hbm, 131, rfl⟩
abbrev main_cst_30 : Ref sig .tc := ⟨.hbm, 132, rfl⟩
abbrev main_v97 : Ref sig .tc := ⟨.hbm, 133, rfl⟩
abbrev main_cst_31 : Ref sig .tc := ⟨.hbm, 134, rfl⟩
abbrev main_v98 : Ref sig .tc := ⟨.hbm, 135, rfl⟩
abbrev main_cst_32 : Ref sig .tc := ⟨.hbm, 136, rfl⟩
abbrev main_v99 : Ref sig .tc := ⟨.hbm, 137, rfl⟩
abbrev main_cst_33 : Ref sig .tc := ⟨.hbm, 138, rfl⟩
abbrev main_v100 : Ref sig .tc := ⟨.hbm, 139, rfl⟩
abbrev main_cst_34 : Ref sig .tc := ⟨.hbm, 140, rfl⟩
abbrev main_v101 : Ref sig .tc := ⟨.hbm, 141, rfl⟩
abbrev main_cst_35 : Ref sig .tc := ⟨.hbm, 142, rfl⟩
abbrev main_v102 : Ref sig .tc := ⟨.hbm, 143, rfl⟩
abbrev main_v103 : Ref sig .tc := ⟨.hbm, 144, rfl⟩
abbrev main_cst_36 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_37 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_38 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_39 : Ref sig .tc := ⟨.hbm, 166, rfl⟩
abbrev main_v122 : Ref sig .tc := ⟨.hbm, 167, rfl⟩
abbrev main_v123 : Ref sig .tc := ⟨.hbm, 168, rfl⟩
abbrev main_cst_40 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_41 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_42 : Ref sig .tc := ⟨.hbm, 181, rfl⟩
abbrev main_v134 : Ref sig .tc := ⟨.hbm, 182, rfl⟩
abbrev main_v135 : Ref sig .tc := ⟨.hbm, 183, rfl⟩
abbrev main_cst_43 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_44 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩

abbrev nD : Nat := 1
abbrev τ : Topo := Topo.v7x

variable {F : FTy → Type} [FloatOps F]
-- ==== Proof.Stats.lean ====
/- The first call (the moment sums) on any entry contents: its body run on whole staging memrefs in its two
   cases (the first step along the batch axis, and a later one), its proof data and its body obligation. -/
module

public import proofs.«01_k».proof.Proof.Gen.KernelIdeal.Launch
public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The contents of a core's buffers when a region is entered: what a region's proof data is stated over. -/
abbrev Ent (F : FTy → Type) : Type := (c : Dev nD) → (b : Ref sig .tc) → Buf (Elt F) ((c : Thread nD τ).loc b)

variable (V : Ent F)

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin cfg0.N, cond0_0 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 16 :=
  (by decide +kernel : ∀ t : Fin grid0.N, cond0_1 (grid0.coords t) ↔ 1 ≤ t.val % 16)

/-! ## Where the windows are idle (the printed configuration's table `Cfg.idle`) -/

/-- Window 0 is never idle (an input). -/
theorem liveAt0_0 : ∀ t : Fin cfg0.N, cfg0.idle 0 (grid0.coords t) = false := fun _ => rfl
/-- Whether output 1's buffer is FRESH at each position `1 ‥ N` — holds nothing the body stored since the region's entry or the
    last write-back (written back at the point before, or idle there and fresh before it) —, as a bitmask the classifier
    computed, bit `n` for position `n + 1`; position 0 is fresh. `freshTab0_1_step` checks it against the configuration's own
    step point by point and Lib/Pipeline/TableIdle.lean `Cfg.fresh_tab` makes it `Cfg.fresh` (`fresh0_1_eq`). -/
def freshTab0_1 : ℕ → Bool
  | 0 => true
  | n + 1 => (0x80008000 : ℕ).testBit n
theorem freshTab0_1_step : ∀ t : Fin cfg0.N,
    freshTab0_1 (t.val + 1) = ((cfg0.win 1).flush t || (cfg0.idle 1 (cfg0.grid.coords t) && freshTab0_1 t.val)) := by decide +kernel
theorem fresh0_1_eq (t : Fin cfg0.N) : cfg0.fresh 1 t.val = freshTab0_1 t.val :=
  Pipeline.Cfg.fresh_tab cfg0 1 freshTab0_1 rfl freshTab0_1_step t.val (Nat.le_of_lt t.isLt)
/-- At the points of case A the printed configuration (`Cfg.idle`) calls output 1 live: the case stores into it. -/
theorem liveAt0_1_A : ∀ t : Fin cfg0.N, cond0_0 (grid0.coords t) → ¬cond0_1 (grid0.coords t) → cfg0.idle 1 (grid0.coords t) = false := by decide +kernel
/-- At the points of case B the printed configuration (`Cfg.idle`) calls output 1 live: the case stores into it. -/
theorem liveAt0_1_B : ∀ t : Fin cfg0.N, ¬cond0_0 (grid0.coords t) → cond0_1 (grid0.coords t) → cfg0.idle 1 (grid0.coords t) = false := by decide +kernel
/-- At the points of case B, which keeps output 1's prior contents (reads it before covering, or covers it in part), the
    window's buffer is not FRESH: something was stored into it since the region's entry or its last write-back, idle points
    between or not (Lib/Pipeline/TableIdle.lean `Cfg.fresh`, by the table `freshTab0_1`). -/
theorem notFresh0_1_B : ∀ t : Fin cfg0.N, ¬cond0_0 (grid0.coords t) → cond0_1 (grid0.coords t) → cfg0.fresh 1 t.val = false := by
  intro t; rw [fresh0_1_eq t]; revert t; decide +kernel
/-- Whether output 2's buffer is FRESH at each position `1 ‥ N` — holds nothing the body stored since the region's entry or the
    last write-back (written back at the point before, or idle there and fresh before it) —, as a bitmask the classifier
    computed, bit `n` for position `n + 1`; position 0 is fresh. `freshTab0_2_step` checks it against the configuration's own
    step point by point and Lib/Pipeline/TableIdle.lean `Cfg.fresh_tab` makes it `Cfg.fresh` (`fresh0_2_eq`). -/
def freshTab0_2 : ℕ → Bool
  | 0 => true
  | n + 1 => (0x80008000 : ℕ).testBit n
theorem freshTab0_2_step : ∀ t : Fin cfg0.N,
    freshTab0_2 (t.val + 1) = ((cfg0.win 2).flush t || (cfg0.idle 2 (cfg0.grid.coords t) && freshTab0_2 t.val)) := by decide +kernel
theorem fresh0_2_eq (t : Fin cfg0.N) : cfg0.fresh 2 t.val = freshTab0_2 t.val :=
  Pipeline.Cfg.fresh_tab cfg0 2 freshTab0_2 rfl freshTab0_2_step t.val (Nat.le_of_lt t.isLt)
/-- At the points of case A the printed configuration (`Cfg.idle`) calls output 2 live: the case stores into it. -/
theorem liveAt0_2_A : ∀ t : Fin cfg0.N, cond0_0 (grid0.coords t) → ¬cond0_1 (grid0.coords t) → cfg0.idle 2 (grid0.coords t) = false := by decide +kernel
/-- At the points of case B the printed configuration (`Cfg.idle`) calls output 2 live: the case stores into it. -/
theorem liveAt0_2_B : ∀ t : Fin cfg0.N, ¬cond0_0 (grid0.coords t) → cond0_1 (grid0.coords t) → cfg0.idle 2 (grid0.coords t) = false := by decide +kernel
/-- At the points of case B, which keeps output 2's prior contents (reads it before covering, or covers it in part), the
    window's buffer is not FRESH: something was stored into it since the region's entry or its last write-back, idle points
    between or not (Lib/Pipeline/TableIdle.lean `Cfg.fresh`, by the table `freshTab0_2`). -/
theorem notFresh0_2_B : ∀ t : Fin cfg0.N, ¬cond0_0 (grid0.coords t) → cond0_1 (grid0.coords t) → cfg0.fresh 2 t.val = false := by
  intro t; rw [fresh0_2_eq t]; revert t; decide +kernel

/-! ## The kernel body on any staging memrefs: a subtype the run finds -/

/-- Each window's current staging memref at point `t`, spelled as the pipeline passes it (`bodyAt0`), and its wholeness. -/
abbrev ms0_0 (t : Fin cfg0.N) : Memref sig .tc .vmem S1024x4x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x512 .f32 := win0_2.stage (cfg0.slots t 2)
abbrev hs0_2 (t : Fin cfg0.N) : (ms0_2 t).IsWhole := hstage0_2 ((cfg0.slots t 2).cast nbuf0_2)

-- (the run's proof term is large: the definition's epilogue — `abstractNestedProofs` — walks it past the default budget)
set_option maxHeartbeats 1540000 in
/-- What the body's stores leave in each output's staging memref, as pieces (last first) IN CASE A (`scf.if` 0 taken, `scf.if` 1 not taken: points 0, 16), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x4x512 .f32) (harg2 : arg2.IsWhole) (arg3 : Memref sig .tc .vmem S1x8x512 .f32) (harg3 : arg3.IsWhole) (arg4 : Memref sig .tc .vmem S1x16x512 .f32) (harg4 : arg4.IsWhole) (hc0 : cond0_0 i) (hc1 : ¬cond0_1 i)
    (x0 : Vec F S1024x4x512 .f32) :
    Σ' (L1 : List (View.Piece (Elt F) S1x8x512 .f32)), { L2 : List (View.Piece (Elt F) S1x16x512 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, ?_, fun E K => ?run⟩
  case run =>
    simp only [cc0__stats_kernel_eq_skeleton]; unfold cc0__stats_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%d1, %f1, -, H1⟩, ⟨%d2, %f2, -, H2⟩, Hk⟩
    obtain rfl := harg2.eq_unread hf0
    sl_exec (disch := first | sl_exact hc0 | sl_exact hc1)
    sl_step
    iapply Hk
    isplitl [H0]
    · iexists _; isplitr; · ipureintro; exact harg2.read_unread _
      iexact H0
    isplitl [H1]; · iexists _; iexact H1
    iexists _; iexact H2

-- (the run's proof term is large: the definition's epilogue — `abstractNestedProofs` — walks it past the default budget)
set_option maxHeartbeats 1548000 in
/-- What the body's stores leave in each output's staging memref, as pieces (last first) IN CASE B (`scf.if` 0 not taken, `scf.if` 1 taken: points 1, 2, … 31: 30 of 32), WITH the
    proof that on whole staging memrefs — the inputs' at their contents, the outputs it reads before covering (1, 2) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x4x512 .f32) (harg2 : arg2.IsWhole) (arg3 : Memref sig .tc .vmem S1x8x512 .f32) (harg3 : arg3.IsWhole) (arg4 : Memref sig .tc .vmem S1x16x512 .f32) (harg4 : arg4.IsWhole) (hc0 : ¬cond0_0 i) (hc1 : cond0_1 i)
    (x0 : Vec F S1024x4x512 .f32) (xo1 : Vec F S1x8x512 .f32) (xo2 : Vec F S1x16x512 .f32) :
    Σ' (L1 : List (View.Piece (Elt F) S1x8x512 .f32)), { L2 : List (View.Piece (Elt F) S1x16x512 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, ?_, fun E K => ?run⟩
  case run =>
    simp only [cc0__stats_kernel_eq_skeleton]; unfold cc0__stats_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]; · iexists _; iexact H1
    iexists _; iexact H2

/-- Case A's pieces for output 1 tile its block (1 store of `S1x8x512`, checked by the kernel's evaluation: Lib/Ring.lean `Piece.tiledL`, linear in the pieces, through a loop's `@[irreducible]` trip theorem too), so they cover it. -/
theorem cover0_A_1 (c : Dev nD) (i : grid0.Coords) (arg2 : Memref sig .tc .vmem S1024x4x512 .f32) (harg2 : arg2.IsWhole) (arg3 : Memref sig .tc .vmem S1x8x512 .f32) (harg3 : arg3.IsWhole) (arg4 : Memref sig .tc .vmem S1x16x512 .f32) (harg4 : arg4.IsWhole) (hc0 : cond0_0 i) (hc1 : ¬cond0_1 i)
    (x0 : Vec F S1024x4x512 .f32) (y : S1x8x512.Idx) :
    ∃ pc ∈ (kernelRun0_A c i arg2 harg2 arg3 harg3 arg4 harg4 hc0 hc1 x0).1, y ∈ pc.1.set :=
  View.cover_of_tiledL (kernelRun0_A c i arg2 harg2 arg3 harg3 arg4 harg4 hc0 hc1 x0).1 S1x8x512.size (by sl_kernel_rfl) y

/-- What case A leaves in output 1's staging buffer: its pieces put together. -/
def out0_A_1 (c : Dev nD) (i : grid0.Coords) (arg2 : Memref sig .tc .vmem S1024x4x512 .f32) (harg2 : arg2.IsWhole) (arg3 : Memref sig .tc .vmem S1x8x512 .f32) (harg3 : arg3.IsWhole) (arg4 : Memref sig .tc .vmem S1x16x512 .f32) (harg4 : arg4.IsWhole) (hc0 : cond0_0 i) (hc1 : ¬cond0_1 i)
    (x0 : Vec F S1024x4x512 .f32) : Vec F S1x8x512 .f32 :=
  View.canon (kernelRun0_A c i arg2 harg2 arg3 harg3 arg4 harg4 hc0 hc1 x0).1

/-- Case A's pieces for output 2 tile its block (1 store of `S1x16x512`, checked by the kernel's evaluation: Lib/Ring.lean `Piece.tiledL`, linear in the pieces, through a loop's `@[irreducible]` trip theorem too), so they cover it. -/
theorem cover0_A_2 (c : Dev nD) (i : grid0.Coords) (arg2 : Memref sig .tc .vmem S1024x4x512 .f32) (harg2 : arg2.IsWhole) (arg3 : Memref sig .tc .vmem S1x8x512 .f32) (harg3 : arg3.IsWhole) (arg4 : Memref sig .tc .vmem S1x16x512 .f32) (harg4 : arg4.IsWhole) (hc0 : cond0_0 i) (hc1 : ¬cond0_1 i)
    (x0 : Vec F S1024x4x512 .f32) (y : S1x16x512.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x16x512.size (by sl_kernel_rfl) y

/-- What case A leaves in output 2's staging buffer: its pieces put together. -/
def out0_A_2 (c : Dev nD) (i : grid0.Coords) (arg2 : Memref sig .tc .vmem S1024x4x512 .f32) (harg2 : arg2.IsWhole) (arg3 : Memref sig .tc .vmem S1x8x512 .f32) (harg3 : arg3.IsWhole) (arg4 : Memref sig .tc .vmem S1x16x512 .f32) (harg4 : arg4.IsWhole) (hc0 : cond0_0 i) (hc1 : ¬cond0_1 i)
    (x0 : Vec F S1024x4x512 .f32) : Vec F S1x16x512 .f32 :=
  View.canon (kernelRun0_A c i arg2 harg2 arg3 harg3 arg4 harg4 hc0 hc1 x0).2.1

/-- Case B's pieces for output 1 tile its block (1 store of `S1x8x512`, checked by the kernel's evaluation: Lib/Ring.lean `Piece.tiledL`, linear in the pieces, through a loop's `@[irreducible]` trip theorem too), so they cover it. -/
theorem cover0_B_1 (c : Dev nD) (i : grid0.Coords) (arg2 : Memref sig .tc .vmem S1024x4x512 .f32) (harg2 : arg2.IsWhole) (arg3 : Memref sig .tc .vmem S1x8x512 .f32) (harg3 : arg3.IsWhole) (arg4 : Memref sig .tc .vmem S1x16x512 .f32) (harg4 : arg4.IsWhole) (hc0 : ¬cond0_0 i) (hc1 : cond0_1 i)
    (x0 : Vec F S1024x4x512 .f32) (xo1 : Vec F S1x8x512 .f32) (xo2 : Vec F S1x16x512 .f32) (y : S1x8x512.Idx) :
    ∃ pc ∈ (kernelRun0_B c i arg2 harg2 arg3 harg3 arg4 harg4 hc0 hc1 x0 xo1 xo2).1, y ∈ pc.1.set :=
  View.cover_of_tiledL (kernelRun0_B c i arg2 harg2 arg3 harg3 arg4 harg4 hc0 hc1 x0 xo1 xo2).1 S1x8x512.size (by sl_kernel_rfl) y

/-- What case B leaves in output 1's staging buffer: its pieces put together. -/
def out0_B_1 (c : Dev nD) (i : grid0.Coords) (arg2 : Memref sig .tc .vmem S1024x4x512 .f32) (harg2 : arg2.IsWhole) (arg3 : Memref sig .tc .vmem S1x8x512 .f32) (harg3 : arg3.IsWhole) (arg4 : Memref sig .tc .vmem S1x16x512 .f32) (harg4 : arg4.IsWhole) (hc0 : ¬cond0_0 i) (hc1 : cond0_1 i)
    (x0 : Vec F S1024x4x512 .f32) (xo1 : Vec F S1x8x512 .f32) (xo2 : Vec F S1x16x512 .f32) : Vec F S1x8x512 .f32 :=
  View.canon (kernelRun0_B c i arg2 harg2 arg3 harg3 arg4 harg4 hc0 hc1 x0 xo1 xo2).1

/-- Case B's pieces for output 2 tile its block (1 store of `S1x16x512`, checked by the kernel's evaluation: Lib/Ring.lean `Piece.tiledL`, linear in the pieces, through a loop's `@[irreducible]` trip theorem too), so they cover it. -/
theorem cover0_B_2 (c : Dev nD) (i : grid0.Coords) (arg2 : Memref sig .tc .vmem S1024x4x512 .f32) (harg2 : arg2.IsWhole) (arg3 : Memref sig .tc .vmem S1x8x512 .f32) (harg3 : arg3.IsWhole) (arg4 : Memref sig .tc .vmem S1x16x512 .f32) (harg4 : arg4.IsWhole) (hc0 : ¬cond0_0 i) (hc1 : cond0_1 i)
    (x0 : Vec F S1024x4x512 .f32) (xo1 : Vec F S1x8x512 .f32) (xo2 : Vec F S1x16x512 .f32) (y : S1x16x512.Idx) :
    ∃ pc ∈ (kernelRun0_B c i arg2 harg2 arg3 harg3 arg4 harg4 hc0 hc1 x0 xo1 xo2).2.1, y ∈ pc.1.set :=
  View.cover_of_tiledL (kernelRun0_B c i arg2 harg2 arg3 harg3 arg4 harg4 hc0 hc1 x0 xo1 xo2).2.1 S1x16x512.size (by sl_kernel_rfl) y

/-- What case B leaves in output 2's staging buffer: its pieces put together. -/
def out0_B_2 (c : Dev nD) (i : grid0.Coords) (arg2 : Memref sig .tc .vmem S1024x4x512 .f32) (harg2 : arg2.IsWhole) (arg3 : Memref sig .tc .vmem S1x8x512 .f32) (harg3 : arg3.IsWhole) (arg4 : Memref sig .tc .vmem S1x16x512 .f32) (harg4 : arg4.IsWhole) (hc0 : ¬cond0_0 i) (hc1 : cond0_1 i)
    (x0 : Vec F S1024x4x512 .f32) (xo1 : Vec F S1x8x512 .f32) (xo2 : Vec F S1x16x512 .f32) : Vec F S1x16x512 .f32 :=
  View.canon (kernelRun0_B c i arg2 harg2 arg3 harg3 arg4 harg4 hc0 hc1 x0 xo1 xo2).2.1

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x8x512 .f32 × Vec F S1x16x512 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (fun h => (fun h => by (try dsimp only at h); omega) ((hcond0_1 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 16 = 0 then
      if h1 : 1 ≤ (n + 1) % 16 then
        False.elim (by have hN : n + 1 < 32 := lt_of_lt_of_eq hn (show cfg0.N = 32 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (fun h => h1 ((hcond0_1 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (fun h => h1 ((hcond0_1 ⟨n + 1, hn⟩).mp h)) (iblk0 V c 0 ⟨n + 1, hn⟩))
    else
      if h1 : 1 ≤ (n + 1) % 16 then
        (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) (iblk0 V c 0 ⟨n + 1, hn⟩) (outsAt0 c n (Nat.lt_of_succ_lt hn)).1 (outsAt0 c n (Nat.lt_of_succ_lt hn)).2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) (iblk0 V c 0 ⟨n + 1, hn⟩) (outsAt0 c n (Nat.lt_of_succ_lt hn)).1 (outsAt0 c n (Nat.lt_of_succ_lt hn)).2)
      else
        False.elim (by have hN : n + 1 < 32 := lt_of_lt_of_eq hn (show cfg0.N = 32 from N_0); omega)

/-- `outsAt0` at a point of case A: that case's contents. -/
theorem outsAt0_A (c : Dev nD) (t : Fin cfg0.N) (h0 : t.val % 16 = 0) (h1 : ¬1 ≤ t.val % 16) :
    outsAt0 V c t.val t.isLt = (out0_A_1 c (grid0.coords t) (ms0_0 t) (hs0_0 t) (ms0_1 t) (hs0_1 t) (ms0_2 t) (hs0_2 t) ((hcond0_0 t).mpr h0) (fun h => h1 ((hcond0_1 t).mp h)) (iblk0 V c 0 t), out0_A_2 c (grid0.coords t) (ms0_0 t) (hs0_0 t) (ms0_1 t) (hs0_1 t) (ms0_2 t) (hs0_2 t) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : 1 ≤ t.val % 16) :
    outsAt0 V c t.val t.isLt = (out0_B_1 c (grid0.coords t) (ms0_0 t) (hs0_0 t) (ms0_1 t) (hs0_1 t) (ms0_2 t) (hs0_2 t) (fun h => h0 ((hcond0_0 t).mp h)) ((hcond0_1 t).mpr h1) (iblk0 V c 0 t) (outsAt0 V c (t.val - 1) (Nat.lt_of_le_of_lt (Nat.sub_le _ _) t.isLt)).1 (outsAt0 V c (t.val - 1) (Nat.lt_of_le_of_lt (Nat.sub_le _ _) t.isLt)).2, out0_B_2 c (grid0.coords t) (ms0_0 t) (hs0_0 t) (ms0_1 t) (hs0_1 t) (ms0_2 t) (hs0_2 t) (fun h => h0 ((hcond0_0 t).mp h)) ((hcond0_1 t).mpr h1) (iblk0 V c 0 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-- Output 1's contents CARRY through the points that leave it idle: at such a point, its buffer not fresh, the proof data's
    `after` is the point before's (the case there stores nothing into the window and its term says so; a case that stores
    into it is not idle there by `liveAt0_1_κ`) — the hypothesis of Lib/Pipeline/TableIdle.lean `Dat.before_out_traj`. -/
theorem hcarry0_1 (c : Dev nD) : ∀ (t : Fin cfg0.N) (_ : t.val ≠ 0), cfg0.idle 1 (grid0.coords t) = true → cfg0.fresh 1 t.val = false →
    (dat0 V c).after 1 t = (dat0 V c).after 1 ⟨t.val - 1, by omega⟩ := by
  intro t _ hi _
  have hN : t.val < 32 := lt_of_lt_of_eq t.isLt (show cfg0.N = 32 from N_0)
  rw [after0_1, after0_1]
  by_cases h0 : t.val % 16 = 0
  · by_cases h1 : 1 ≤ t.val % 16
    · exfalso; omega
    · rw [liveAt0_1_A t ((hcond0_0 t).mpr h0) (fun h => h1 ((hcond0_1 t).mp h))] at hi
      exact absurd hi Bool.false_ne_true
  · by_cases h1 : 1 ≤ t.val % 16
    · rw [liveAt0_1_B t (fun h => h0 ((hcond0_0 t).mp h)) ((hcond0_1 t).mpr h1)] at hi
      exact absurd hi Bool.false_ne_true
    · exfalso; omega

/-- Output 2's contents CARRY through the points that leave it idle: at such a point, its buffer not fresh, the proof data's
    `after` is the point before's (the case there stores nothing into the window and its term says so; a case that stores
    into it is not idle there by `liveAt0_2_κ`) — the hypothesis of Lib/Pipeline/TableIdle.lean `Dat.before_out_traj`. -/
theorem hcarry0_2 (c : Dev nD) : ∀ (t : Fin cfg0.N) (_ : t.val ≠ 0), cfg0.idle 2 (grid0.coords t) = true → cfg0.fresh 2 t.val = false →
    (dat0 V c).after 2 t = (dat0 V c).after 2 ⟨t.val - 1, by omega⟩ := by
  intro t _ hi _
  have hN : t.val < 32 := lt_of_lt_of_eq t.isLt (show cfg0.N = 32 from N_0)
  rw [after0_2, after0_2]
  by_cases h0 : t.val % 16 = 0
  · by_cases h1 : 1 ≤ t.val % 16
    · exfalso; omega
    · rw [liveAt0_2_A t ((hcond0_0 t).mpr h0) (fun h => h1 ((hcond0_1 t).mp h))] at hi
      exact absurd hi Bool.false_ne_true
  · by_cases h1 : 1 ≤ t.val % 16
    · rw [liveAt0_2_B t (fun h => h0 ((hcond0_0 t).mp h)) ((hcond0_1 t).mpr h1)] at hi
      exact absurd hi Bool.false_ne_true
    · exfalso; omega
/-- At a point of case B output 1's current staging buffer holds what the point before left: the buffer is not fresh
    there (`notFresh0_1_B`: stored into since the region's entry or the last write-back, carried through the points that
    leave it idle by `hcarry0_1`; Lib/Pipeline/TableIdle.lean `Dat.before_out_traj`). -/
theorem before0_1_B (c : Dev nD) (t : Fin cfg0.N) (h0 : ¬t.val % 16 = 0) (h1 : 1 ≤ t.val % 16) (d) :
    (dat0 V c).before 1 t d = (outsAt0 V c (t.val - 1) (Nat.lt_of_le_of_lt (Nat.sub_le _ _) t.isLt)).1 := by
  rw [Dat.before_out_traj _ 1 rfl (fun _ _ => rfl) (hcarry0_1 V c) t.val t rfl d,
    if_neg (by rw [notFresh0_1_B t (fun h => h0 ((hcond0_0 t).mp h)) ((hcond0_1 t).mpr h1)]; exact Bool.false_ne_true)]
  dsimp only [dat0]
/-- At a point of case B output 2's current staging buffer holds what the point before left: the buffer is not fresh
    there (`notFresh0_2_B`: stored into since the region's entry or the last write-back, carried through the points that
    leave it idle by `hcarry0_2`; Lib/Pipeline/TableIdle.lean `Dat.before_out_traj`). -/
theorem before0_2_B (c : Dev nD) (t : Fin cfg0.N) (h0 : ¬t.val % 16 = 0) (h1 : 1 ≤ t.val % 16) (d) :
    (dat0 V c).before 2 t d = (outsAt0 V c (t.val - 1) (Nat.lt_of_le_of_lt (Nat.sub_le _ _) t.isLt)).2 := by
  rw [Dat.before_out_traj _ 2 rfl (fun _ _ => rfl) (hcarry0_2 V c) t.val t rfl d,
    if_neg (by rw [notFresh0_2_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl]
  have hN : t.val < 32 := lt_of_lt_of_eq t.isLt (show cfg0.N = 32 from N_0)
  by_cases h0 : t.val % 16 = 0
  · by_cases h1 : 1 ≤ t.val % 16
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_A t ((hcond0_0 t).mpr h0) (fun h => h1 ((hcond0_1 t).mp h))], after0_1]
      rw [show (dat0 V c).leavesExact 2 t = owns (c : Thread nD τ) (ms0_2 t) fullShare ((dat0 V c).after 2 t) from by
      unfold Dat.leavesExact; rw [liveAt0_2_A t ((hcond0_0 t).mpr h0) (fun h => h1 ((hcond0_1 t).mp h))], after0_2]
      rw [outsAt0_A V c t h0 h1]
      unfold out0_A_1 out0_A_2; (try dsimp only)
      iintro ⟨HΦ, Ho, ⟨%d0, H0⟩, ⟨%d1, H1⟩, ⟨%d2, H2⟩⟩
      iapply ((kernelRun0_A c (grid0.coords t) _ _ _ _ _ _ ((hcond0_0 t).mpr h0) (fun h => h1 ((hcond0_1 t).mp h)) (iblk0 V c 0 t)).2.2 Set.univ _)
      isplitl [H0]; · iexact H0
      isplitl [H1]; · iexists _; iexact H1
      isplitl [H2]; · iexists _; iexact H2
      iintro ⟨H0, ⟨%e1, H1⟩, ⟨%e2, H2⟩⟩
      isplitl [HΦ]; · iexact HΦ
      isplitl [Ho]; · iexact Ho
      isplitl [H0]; · iexact H0
      isplitl [H1]
      · unfold owns; iexists _; isplitr
        swap; · iexact H1
        ipureintro; exact View.read_writes_eq_canon _ _ _ (cover0_A_1 c _ _ _ _ _ _ _ _ _ _)
      unfold owns; iexists _; isplitr
      swap; · iexact H2
      ipureintro; exact View.read_writes_eq_canon _ _ _ (cover0_A_2 c _ _ _ _ _ _ _ _ _ _)
  · by_cases h1 : 1 ≤ t.val % 16
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_B t (fun h => h0 ((hcond0_0 t).mp h)) ((hcond0_1 t).mpr h1)], after0_1]
      rw [show (dat0 V c).leavesExact 2 t = owns (c : Thread nD τ) (ms0_2 t) fullShare ((dat0 V c).after 2 t) from by
      unfold Dat.leavesExact; rw [liveAt0_2_B t (fun h => h0 ((hcond0_0 t).mp h)) ((hcond0_1 t).mpr h1)], after0_2]
      rw [outsAt0_B V c t h0 h1]
      simp only [before0_1_B V c t h0 h1, before0_2_B V c t h0 h1]
      unfold out0_B_1 out0_B_2; (try dsimp only)
      iintro ⟨HΦ, Ho, ⟨%d0, H0⟩, ⟨%d1, H1⟩, ⟨%d2, H2⟩⟩
      iapply ((kernelRun0_B c (grid0.coords t) _ _ _ _ _ _ (fun h => h0 ((hcond0_0 t).mp h)) ((hcond0_1 t).mpr h1) (iblk0 V c 0 t) _ _).2.2 Set.univ _)
      isplitl [H0]; · iexact H0
      isplitl [H1]; · iexact H1
      isplitl [H2]; · iexact H2
      iintro ⟨H0, ⟨%e1, H1⟩, ⟨%e2, H2⟩⟩
      isplitl [HΦ]; · iexact HΦ
      isplitl [Ho]; · iexact Ho
      isplitl [H0]; · iexact H0
      isplitl [H1]
      · unfold owns; iexists _; isplitr
        swap; · iexact H1
        ipureintro; exact View.read_writes_eq_canon _ _ _ (cover0_B_1 c _ _ _ _ _ _ _ _ _ _ _ _)
      unfold owns; iexists _; isplitr
      swap; · iexact H2
      ipureintro; exact View.read_writes_eq_canon _ _ _ (cover0_B_2 c _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Kit

end
-- ==== Proof.Solve.lean ====
/- The second call (factor, invert, combine) on any entry contents: its body run on whole staging memrefs, its proof
   data and its body obligation. -/
module

public import proofs.«01_k».proof.Proof.Gen.KernelIdeal.Launch
public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
public import proofs.«01_k».proof.Proof.Stats

@[expose] public section

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : Ent F)

/-- Window `w`'s block of the second call, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds its block when the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S32x512 .f32 := win1_0.stage (cfg1.slots t 0)
abbrev ms1_1 (t : Fin cfg1.N) : Memref sig .tc .vmem S24x512 .f32 := win1_1.stage (cfg1.slots t 1)

set_option maxHeartbeats 3300000 in
/-- What the body's one store leaves in the output's staging buffer, found by running the body, with the run itself. -/
noncomputable def kernelRun1 (c : Dev nD) (arg0 : Memref sig .tc .vmem S32x512 .f32) (harg0 : arg0.IsWhole) (arg1 : Memref sig .tc .vmem S24x512 .f32) (harg1 : arg1.IsWhole)
    (x0 : Vec F S32x512 .f32) :
    { L1 : List (View.Piece (Elt F) S24x512 .f32) //
      ∀ (E : Set ℕ) (K : PUnit → sProp 𝕄),
        iprop(owns (c : Thread nD τ) arg0 fullShare x0 ∗ (∃ d, owns (c : Thread nD τ) arg1 fullShare d)
            ∗ (iprop(owns (c : Thread nD τ) arg0 fullShare x0 ∗ (∃ f, arg1.view.loc (c : Thread nD τ) ↦[arg1.view.set]{fullShare} arg1.view.writes (Elt F) f L1)) -∗ K ⟨⟩))
          ⊢ wp frame (wpE (defs₀ (F := F)) Variants.none c none) E (cc1__solve_kernel arg0 harg0 arg1 harg1) K } := by
  refine ⟨?_, fun E K => ?run⟩
  case run =>
    simp only [cc1__solve_kernel_eq_skeleton]; unfold cc1__solve_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%d1, %f1, -, H1⟩, Hk⟩
    obtain rfl := harg0.eq_unread hf0
    sl_exec
    sl_step
    iapply Hk
    isplitl [H0]
    · iexists _; isplitr; · ipureintro; exact harg0.read_unread _
      iexact H0
    iexists _; iexact H1

/-- The store covers the block. -/
theorem cover1 (c : Dev nD) (arg0 : Memref sig .tc .vmem S32x512 .f32) (harg0 : arg0.IsWhole) (arg1 : Memref sig .tc .vmem S24x512 .f32) (harg1 : arg1.IsWhole)
    (x0 : Vec F S32x512 .f32) (y : S24x512.Idx) :
    ∃ pc ∈ (kernelRun1 c arg0 harg0 arg1 harg1 x0).1, y ∈ pc.1.set :=
  View.cover_of_tiledL (kernelRun1 c arg0 harg0 arg1 harg1 x0).1 S24x512.size (by sl_kernel_rfl) y

/-- What the body leaves in the output's staging buffer at a point. -/
def out1 (c : Dev nD) (t : Fin cfg1.N) (x0 : Vec F S32x512 .f32) : Vec F S24x512 .f32 :=
  View.canon (kernelRun1 c (ms1_0 t) (hstage1_0 0) (ms1_1 t) (hstage1_1 0) x0).1

/-- The second call's proof data over the entry contents. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1 c t (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1 c t (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

/-- What the body is called with, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))
/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

set_option maxHeartbeats 800000 in
/-- The body at the point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  unfold out1
  iintro ⟨HΦ, Ho, ⟨%d0, H0⟩, ⟨%d1, H1⟩⟩
  iapply ((kernelRun1 c _ _ _ _ (iblk1 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_eq_canon _ _ _ (cover1 c _ _ _ _ _)

theorem defs₀_row1 (t : Fin cfg1.N) :
    defs₀ (F := F) .tc cfg1.body (cfg1.bodyArgs t (cfg1.slots t)) = bodyAt1 t := by
  unfold defs₀; rw [Defs.onTc_tc]

/-- The library's body obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Kit

end
-- ==== Proof.ApplyRun.lean ====
/- The third call (apply the affine map): its body run on whole staging memrefs. -/
module

public import proofs.«01_k».proof.Proof.Gen.KernelIdeal.Launch
public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
public import proofs.«01_k».proof.Proof.Stats

@[expose] public section

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
/-- What the body's stores leave in the output's staging buffer (last first), found by running the body, with the run itself. -/
noncomputable def kernelRun2 (c : Dev nD) (i : grid2.Coords) (arg2 : Memref sig .tc .vmem S24x512 .f32) (harg2 : arg2.IsWhole) (arg3 : Memref sig .tc .vmem S1024x4x512 .f32) (harg3 : arg3.IsWhole)
    (arg4 : Memref sig .tc .vmem S1024x4x512 .f32) (harg4 : arg4.IsWhole) (x0 : Vec F S24x512 .f32) (x1 : Vec F S1024x4x512 .f32) :
    { L2 : List (View.Piece (Elt F) S1024x4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc2__apply_kernel i arg2 harg2 arg3 harg3 arg4 harg4) K } := by
  refine ⟨?_, fun E K => ?run⟩
  case run =>
    simp only [cc2__apply_kernel_eq_skeleton]; unfold cc2__apply_kernel_skel
    simp only [k2_part109_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton, k2_part40_eq_skeleton, k2_part41_eq_skeleton, k2_part42_eq_skeleton, k2_part43_eq_skeleton, k2_part44_eq_skeleton, k2_part45_eq_skeleton, k2_part46_eq_skeleton, k2_part47_eq_skeleton, k2_part48_eq_skeleton, k2_part49_eq_skeleton, k2_part50_eq_skeleton, k2_part51_eq_skeleton, k2_part52_eq_skeleton, k2_part53_eq_skeleton, k2_part54_eq_skeleton, k2_part55_eq_skeleton, k2_part56_eq_skeleton, k2_part57_eq_skeleton, k2_part58_eq_skeleton, k2_part59_eq_skeleton, k2_part60_eq_skeleton, k2_part61_eq_skeleton, k2_part62_eq_skeleton, k2_part63_eq_skeleton, k2_part64_eq_skeleton, k2_part65_eq_skeleton, k2_part66_eq_skeleton, k2_part67_eq_skeleton, k2_part68_eq_skeleton, k2_part69_eq_skeleton, k2_part70_eq_skeleton, k2_part71_eq_skeleton, k2_part72_eq_skeleton, k2_part73_eq_skeleton, k2_part74_eq_skeleton, k2_part75_eq_skeleton, k2_part76_eq_skeleton, k2_part77_eq_skeleton, k2_part78_eq_skeleton, k2_part79_eq_skeleton, k2_part80_eq_skeleton, k2_part81_eq_skeleton, k2_part82_eq_skeleton, k2_part83_eq_skeleton, k2_part84_eq_skeleton, k2_part85_eq_skeleton, k2_part86_eq_skeleton, k2_part87_eq_skeleton, k2_part88_eq_skeleton, k2_part89_eq_skeleton, k2_part90_eq_skeleton, k2_part91_eq_skeleton, k2_part92_eq_skeleton, k2_part93_eq_skeleton, k2_part94_eq_skeleton, k2_part95_eq_skeleton, k2_part96_eq_skeleton, k2_part97_eq_skeleton, k2_part98_eq_skeleton, k2_part99_eq_skeleton, k2_part100_eq_skeleton, k2_part101_eq_skeleton, k2_part102_eq_skeleton, k2_part103_eq_skeleton, k2_part104_eq_skeleton, k2_part105_eq_skeleton, k2_part106_eq_skeleton, k2_part107_eq_skeleton, k2_part108_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Kit

end
-- ==== Proof.Apply.lean ====
/- The third call (the pointwise transform) on any entry contents: the stores its run leaves, in closed form, its proof
   data and its body obligation. The coefficient window overhangs its array by four rows, which the body does not load. -/
module

public import proofs.«01_k».proof.Proof.Gen.KernelIdeal.Launch
public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
public import proofs.«01_k».proof.Proof.ApplyRun

@[expose] public section

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rows of the coefficient array the body loads, -/
abbrev rCoef (k : Fin 20) : Rect S24x512 :=
  Rect.unit (s := S24x512) ![k.val, 0] S1x512.size (by intro a; have := k.isLt; fin_cases a <;> simp <;> omega)
/-- and the rectangle of the block that chunk `n` of one component is: sixteen rows. -/
abbrev rChunk (n : Fin 64) (i : Fin 4) : Rect S1024x4x512 :=
  Rect.unit (s := S1024x4x512) ![16 * n.val, i.val, 0] S16x1x512.size (by intro a; have := n.isLt; have := i.isLt; fin_cases a <;> simp <;> omega)

/-- Row `k` of the coefficients as the body uses it, spread over sixteen rows. -/
def coef (lda : Fin 20 → FVec F S1x512 .f32) (k : Fin 20) : FVec F S16x512 .f32 :=
  broadcastTo S16x512 (shapeCast S1x512 (lda k) shapeCasts_S1x512_S1x512) broadcasts_S1x512_S16x512
/-- One chunk of one component of the block as the body uses it. -/
def comp (ldx : Fin 64 → Fin 4 → FVec F S16x1x512 .f32) (n : Fin 64) (j : Fin 4) : FVec F S16x512 .f32 :=
  shapeCast S16x512 (ldx n j) shapeCasts_S16x1x512_S16x512
/-- What the body stores in chunk `n` of component `i`: the bias, then the four products added on. -/
def ychunk (lda : Fin 20 → FVec F S1x512 .f32) (ldx : Fin 64 → Fin 4 → FVec F S16x1x512 .f32) (n : Fin 64) (i : Fin 4) : FVec F S16x1x512 .f32 :=
  shapeCast S16x1x512
    (addf (addf (addf (addf (coef lda ⟨16 + i.val, by omega⟩)
      (mulf (coef lda ⟨4 * i.val, by omega⟩) (comp ldx n 0)))
      (mulf (coef lda ⟨4 * i.val + 1, by omega⟩) (comp ldx n 1)))
      (mulf (coef lda ⟨4 * i.val + 2, by omega⟩) (comp ldx n 2)))
      (mulf (coef lda ⟨4 * i.val + 3, by omega⟩) (comp ldx n 3))) shapeCasts_S16x512_S16x1x512
/-- The 256 stores, last first: the chunks from the last, in each the components from the last. -/
def pieces (lda : Fin 20 → FVec F S1x512 .f32) (ldx : Fin 64 → Fin 4 → FVec F S16x1x512 .f32) : List (View.Piece (Elt F) S1024x4x512 .f32) :=
  List.ofFn fun k : Fin 256 => ⟨rChunk ⟨63 - k.val / 4, by omega⟩ ⟨3 - k.val % 4, by omega⟩, ychunk lda ldx ⟨63 - k.val / 4, by omega⟩ ⟨3 - k.val % 4, by omega⟩⟩

set_option maxRecDepth 100000 in
set_option maxHeartbeats 8000000 in
/-- The stores the run found are those. -/
theorem kernelRun2_eq (c : Dev nD) (i : grid2.Coords) (arg2 : Memref sig .tc .vmem S24x512 .f32) (harg2 : arg2.IsWhole) (arg3 : Memref sig .tc .vmem S1024x4x512 .f32) (harg3 : arg3.IsWhole)
    (arg4 : Memref sig .tc .vmem S1024x4x512 .f32) (harg4 : arg4.IsWhole) (x0 : Vec F S24x512 .f32) (x1 : Vec F S1024x4x512 .f32) :
    (kernelRun2 c i arg2 harg2 arg3 harg3 arg4 harg4 x0 x1).1 = pieces (fun k => View.ld x0 (rCoef k)) (fun n j => View.ld x1 (rChunk n j)) := by
  have h0 : ∀ k, View.ld x0 (rCoef k) = View.readAt (Elt F) arg2.view (rCoef k).toLoadRect (harg2.unread x0) := fun k => by
    rw [View.readAt_eq_ld, harg2.read_unread]
  have h1 : ∀ n j, View.ld x1 (rChunk n j) = View.readAt (Elt F) arg3.view (rChunk n j).toLoadRect (harg3.unread x1) := fun n j => by
    rw [View.readAt_eq_ld, harg3.read_unread]
  simp only [h0, h1]
  sl_kernel_rfl

variable (V : Ent F)

/-- Window `w`'s block of the third call, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The coefficient window's buffer once the fetch has landed over contents `d`: twenty rows of the array, `d` below. -/
abbrev cblk (c : Dev nD) (t : Fin cfg2.N) (d : Vec F S24x512 .f32) : Vec F S24x512 .f32 :=
  (cfg2.win 0).fill (cfg2.grid.coords t) d (iblk2 V c 0 t)
/-- Below the rows the fetch fills the proof data names this. -/
abbrev cpad : Vec F S24x512 .f32 := fun _ => Scalar.ofBits .f32 0x00000000#32

/-- The fetch moves twenty rows, whole, -/
theorem xsize2_0 (t : Fin cfg2.N) : ∀ a, (cfg2.win 0).xsize (cfg2.grid.coords t) a = (![20, 512] : Fin 2 → ℕ) a := by
  intro a; fin_cases a <;> rfl
/-- so the rows the body loads do not depend on what the buffer held. -/
theorem cblk_rows (c : Dev nD) (t : Fin cfg2.N) (d d' : Vec F S24x512 .f32) (k : Fin 20) :
    View.ld (cblk V c t d) (rCoef k) = View.ld (cblk V c t d') (rCoef k) := by
  funext j
  have hm : (cfg2.win 0).moved (cfg2.grid.coords t) ((rCoef k).idx j) = true :=
    ((cfg2.win 0).moved_iff _ _).mpr fun a => by
      rw [xsize2_0]
      have h0 : (j 0 : ℕ) < 1 := (j 0).isLt; have h1 : (j 1 : ℕ) < 512 := (j 1).isLt; have := k.isLt
      fin_cases a <;> simp [LoadRect.idx, Rect.unit] <;> omega
  show Window.fill _ _ _ _ _ = Window.fill _ _ _ _ _
  unfold Window.fill; rw [dif_pos hm, dif_pos hm]

/-- What the body leaves in the output's staging buffer at a point. -/
def out2 (c : Dev nD) (t : Fin cfg2.N) : Vec F S1024x4x512 .f32 :=
  View.canon (pieces (fun k => View.ld (cblk V c t cpad) (rCoef k)) (fun n j => View.ld (iblk2 V c 1 t : Vec F S1024x4x512 .f32) (rChunk n j)))

abbrev ms2_0 (t : Fin cfg2.N) : Memref sig .tc .vmem S24x512 .f32 := win2_0.stage (cfg2.slots t 0)
abbrev ms2_1 (t : Fin cfg2.N) : Memref sig .tc .vmem S1024x4x512 .f32 := win2_1.stage (cfg2.slots t 1)
abbrev ms2_2 (t : Fin cfg2.N) : Memref sig .tc .vmem S1024x4x512 .f32 := win2_2.stage (cfg2.slots t 2)

/-- The third call's proof data over the entry contents. -/
def dat2 (c : Dev nD) : Dat τ (Elt F) Unit ℕ (UR sig nD τ) ℕ cfg2 c where
  A w := V c (Pipeline.arrRef spec2 w)
  after w t := match w with
    | ⟨0, _⟩ => cblk V c t cpad
    | ⟨1, _⟩ => iblk2 V c 1 t
    | ⟨2, _⟩ => out2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = cblk V c t cpad := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 V c t := by dsimp only [dat2]
/-- The inputs' staging buffers hold their blocks when the body runs, the coefficients' over what it held before. -/
theorem before2_0 (c : Dev nD) (t : Fin cfg2.N) (d) : (dat2 V c).before 0 t d = cblk V c t d :=
  ((dat2 V c).before_in_eq_fetched 0 rfl (fun _ => rfl) (fun _ _ _ => rfl) (fun t => by
      rw [after2_0]; refine ((cfg2.win 0).cut_fill _ _ _).trans ?_; unfold Dat.blockOf iblk2; rw [A_eq2]) t d).trans
    (by unfold Dat.fetched Dat.blockOf cblk iblk2; rw [A_eq2])
theorem before2_1 (c : Dev nD) (t : Fin cfg2.N) (d) : (dat2 V c).before 1 t d = iblk2 V c 1 t :=
  ((dat2 V c).before_in_eq_fetched 1 rfl (fun _ => rfl) (fun _ _ _ => rfl) (fun t => by
      rw [after2_1]; unfold Dat.blockOf iblk2; rw [A_eq2]; try rfl) t d).trans
    (by unfold Dat.fetched Dat.blockOf iblk2; rw [A_eq2]; try rfl)

set_option maxRecDepth 100000 in
/-- The stores cover the block. -/
theorem cover2 (lda : Fin 20 → FVec F S1x512 .f32) (ldx : Fin 64 → Fin 4 → FVec F S16x1x512 .f32) (y : S1024x4x512.Idx) :
    ∃ pc ∈ pieces lda ldx, y ∈ pc.1.set :=
  View.cover_of_tiledL (pieces lda ldx) ![16, 1, 512] (by sl_kernel_rfl) y

/-- What the body is called with, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))
/-- and what it returns: the coefficients' buffer on the rows the transfer moves. -/
def bodyPost2 (c : Dev nD) (t : Fin cfg2.N) : sProp 𝕄 :=
  iprop((dat2 V c).Φ t.succ ∗ (dat2 V c).owesAt () t.succ
    ∗ (∃ d, owns (c : Thread nD τ) (ms2_0 t) fullShare ((cfg2.win 0).fill (cfg2.grid.coords t) d ((cfg2.win 0).cut (cfg2.grid.coords t) ((dat2 V c).after 0 t))))
    ∗ owns (c : Thread nD τ) (ms2_1 t) fullShare ((dat2 V c).after 1 t)
    ∗ owns (c : Thread nD τ) (ms2_2 t) fullShare ((dat2 V c).after 2 t))

set_option maxHeartbeats 800000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply ((kernelRun2 c _ _ _ _ _ _ _ (cblk V c t d0) (iblk2 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]
  · iexists d0
    rw [show (cfg2.win 0).cut (cfg2.grid.coords t) (cblk V c t cpad) = iblk2 V c 0 t from (cfg2.win 0).cut_fill _ _ _]
    iexact H0
  isplitl [H1]; · iexact H1
  unfold owns; iexists _; isplitr
  swap; · iexact H2
  ipureintro
  rw [kernelRun2_eq]
  rw [View.read_writes_eq_canon _ _ _ (cover2 _ _)]
  unfold out2
  exact congrArg (fun l => View.canon (pieces l fun n j => View.ld (iblk2 V c 1 t : Vec F S1024x4x512 .f32) (rChunk n j))) (funext (cblk_rows V c t d0 cpad))

theorem defs₀_row2 (t : Fin cfg2.N) :
    defs₀ (F := F) .tc cfg2.body (cfg2.bodyArgs t (cfg2.slots t)) = bodyAt2 t := by
  unfold defs₀; rw [Defs.onTc_tc]

/-- The library's body obligation, in its form for windows whose block overhangs the array. -/
theorem body_obligation2 (c : Dev nD) : BodyObligationLoose (dat2 (F := F) V c) (defs₀ (F := F)) Variants.none () Set.univ := fun t => by
  rw [bigSep_W2, bigSep_W2, defs₀_row2]
  exact triple_restated (sound_body2 V c t) rfl .rfl fun _ => .rfl

end Cert.KernelIdeal.Kit

end
-- ==== Proof.Frames.lean ====
/- The whole program: the contents of the buffers followed through its host stretches and its three calls, the calls
   as segments, and the launch. Any float instance. -/
module

public import proofs.«01_k».proof.Proof.Gen.KernelIdeal.Launch
public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
public import Idealize.ShloMosaic.Lib.Pipeline.FrameSuffix
public import Idealize.ShloMosaic.Lib.Pipeline.RegionsLoop
public import proofs.«01_k».proof.Proof.Solve
public import proofs.«01_k».proof.Proof.Apply

@[expose] public section

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)
/-- The contents after host stretch 0. -/
def W1 (c : Dev nD) : Valuation τ sig (Elt F) := StableHlo.after hostOps0 (W0 m c)
theorem W1_of (c : Dev nD) (r : Ref sig .tc) (h : r ∉ hostOps0_W) : W1 m c r = W0 m c r :=
  StableHlo.after_of_writes_sub hostOps0 _ hostOps0_writes h
abbrev Ve1 : Ent F := fun c b => W1 m c b
/-- The contents after call 0: its arrays at what the pipeline leaves in them, the rest as it found them. -/
def W2 (c : Dev nD) : Valuation τ sig (Elt F) :=
  Pipeline.withArrays spec0 c (W1 m c) fun w => (dat0 (Ve1 m) c).arrAt w cfg0.N
abbrev Ve2 : Ent F := fun c b => W2 m c b
theorem W2_arr (c : Dev nD) (w : Fin cfg0.W) :
    W2 m c (Proc.devRef .tc (Pipeline.arrRef spec0 w)) = (dat0 (Ve1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) : W2 m c b = W1 m c b := by
  unfold W2; exact Pipeline.withArrays_of_ne spec0 c _ _ b hb
theorem W2_of (c : Dev nD) (r : Ref sig .tc) (h : ∀ w, Pipeline.arrRef spec0 w = r → (cfg0.win w).isOut = false) :
    W2 m c r = W1 m c r := by
  by_cases hw : ∃ w, Pipeline.arrRef spec0 w = r
  · obtain ⟨w, rfl⟩ := hw
    exact (W2_arr m c w).trans (((dat0 (Ve1 m) c).arrAt_in w (h w rfl) _).trans (A_eq0 (Ve1 m) c w))
  · exact W2_of_ne m c r fun w e => hw ⟨w, e⟩
theorem hF0 (c : Dev nD) (w : Fin cfg0.W) : (dat0 (Ve1 m) c).arrAt w cfg0.N = Ve2 m c (Pipeline.arrRef spec0 w) :=
  (W2_arr m c w).symm
theorem hrest0 (c : Dev nD) : ∀ b, b ∉ Finset.univ.image (Pipeline.arrRef spec0) → Ve2 m c b = Ve1 m c b :=
  fun b hb => W2_of_ne m c b fun w e => hb (Finset.mem_image.mpr ⟨w, Finset.mem_univ _, e⟩)
/-- The contents after host stretch 1. -/
def W3 (c : Dev nD) : Valuation τ sig (Elt F) := StableHlo.after hostOps1 (W2 m c)
theorem W3_of (c : Dev nD) (r : Ref sig .tc) (h : r ∉ hostOps1_W) : W3 m c r = W2 m c r :=
  StableHlo.after_of_writes_sub hostOps1 _ hostOps1_writes h
abbrev Ve3 : Ent F := fun c b => W3 m c b
/-- The contents after call 1: its arrays at what the pipeline leaves in them, the rest as it found them. -/
def W4 (c : Dev nD) : Valuation τ sig (Elt F) :=
  Pipeline.withArrays spec1 c (W3 m c) fun w => (dat1 (Ve3 m) c).arrAt w cfg1.N
abbrev Ve4 : Ent F := fun c b => W4 m c b
theorem W4_arr (c : Dev nD) (w : Fin cfg1.W) :
    W4 m c (Proc.devRef .tc (Pipeline.arrRef spec1 w)) = (dat1 (Ve3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) : W4 m c b = W3 m c b := by
  unfold W4; exact Pipeline.withArrays_of_ne spec1 c _ _ b hb
theorem W4_of (c : Dev nD) (r : Ref sig .tc) (h : ∀ w, Pipeline.arrRef spec1 w = r → (cfg1.win w).isOut = false) :
    W4 m c r = W3 m c r := by
  by_cases hw : ∃ w, Pipeline.arrRef spec1 w = r
  · obtain ⟨w, rfl⟩ := hw
    exact (W4_arr m c w).trans (((dat1 (Ve3 m) c).arrAt_in w (h w rfl) _).trans (A_eq1 (Ve3 m) c w))
  · exact W4_of_ne m c r fun w e => hw ⟨w, e⟩
theorem hF1 (c : Dev nD) (w : Fin cfg1.W) : (dat1 (Ve3 m) c).arrAt w cfg1.N = Ve4 m c (Pipeline.arrRef spec1 w) :=
  (W4_arr m c w).symm
theorem hrest1 (c : Dev nD) : ∀ b, b ∉ Finset.univ.image (Pipeline.arrRef spec1) → Ve4 m c b = Ve3 m c b :=
  fun b hb => W4_of_ne m c b fun w e => hb (Finset.mem_image.mpr ⟨w, Finset.mem_univ _, e⟩)
/-- The contents after host stretch 2. -/
def W5 (c : Dev nD) : Valuation τ sig (Elt F) := StableHlo.after hostOps2 (W4 m c)
theorem W5_of (c : Dev nD) (r : Ref sig .tc) (h : r ∉ hostOps2_W) : W5 m c r = W4 m c r :=
  StableHlo.after_of_writes_sub hostOps2 _ hostOps2_writes h
abbrev Ve5 : Ent F := fun c b => W5 m c b
/-- The contents after call 2: its arrays at what the pipeline leaves in them, the rest as it found them. -/
def W6 (c : Dev nD) : Valuation τ sig (Elt F) :=
  Pipeline.withArrays spec2 c (W5 m c) fun w => (dat2 (Ve5 m) c).arrAt w cfg2.N
abbrev Ve6 : Ent F := fun c b => W6 m c b
theorem W6_arr (c : Dev nD) (w : Fin cfg2.W) :
    W6 m c (Proc.devRef .tc (Pipeline.arrRef spec2 w)) = (dat2 (Ve5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) : W6 m c b = W5 m c b := by
  unfold W6; exact Pipeline.withArrays_of_ne spec2 c _ _ b hb
theorem W6_of (c : Dev nD) (r : Ref sig .tc) (h : ∀ w, Pipeline.arrRef spec2 w = r → (cfg2.win w).isOut = false) :
    W6 m c r = W5 m c r := by
  by_cases hw : ∃ w, Pipeline.arrRef spec2 w = r
  · obtain ⟨w, rfl⟩ := hw
    exact (W6_arr m c w).trans (((dat2 (Ve5 m) c).arrAt_in w (h w rfl) _).trans (A_eq2 (Ve5 m) c w))
  · exact W6_of_ne m c r fun w e => hw ⟨w, e⟩
theorem hF2 (c : Dev nD) (w : Fin cfg2.W) : (dat2 (Ve5 m) c).arrAt w cfg2.N = Ve6 m c (Pipeline.arrRef spec2 w) :=
  (W6_arr m c w).symm
theorem hrest2 (c : Dev nD) : ∀ b, b ∉ Finset.univ.image (Pipeline.arrRef spec2) → Ve6 m c b = Ve5 m c b :=
  fun b hb => W6_of_ne m c b fun w e => hb (Finset.mem_image.mpr ⟨w, Finset.mem_univ _, e⟩)
/-- The contents after host stretch 3. -/
def W7 (c : Dev nD) : Valuation τ sig (Elt F) := StableHlo.after hostOps3 (W6 m c)
theorem W7_of (c : Dev nD) (r : Ref sig .tc) (h : r ∉ hostOps3_W) : W7 m c r = W6 m c r :=
  StableHlo.after_of_writes_sub hostOps3 _ hostOps3_writes h
abbrev Ve7 : Ent F := fun c b => W7 m c b

theorem W7_arg (c : Dev nD) (r : Ref sig .tc) (h0 : r ∉ hostOps0_W) (h1 : r ∉ hostOps1_W) (h2 : r ∉ hostOps2_W) (h3 : r ∉ hostOps3_W)
    (g0 : ∀ w, Pipeline.arrRef spec0 w = r → (cfg0.win w).isOut = false) (g1 : ∀ w, Pipeline.arrRef spec1 w = r → (cfg1.win w).isOut = false)
    (g2 : ∀ w, Pipeline.arrRef spec2 w = r → (cfg2.win w).isOut = false) : W7 m c r = W0 m c r :=
  (W7_of m c r h3).trans <| (W6_of m c r g2).trans <| (W5_of m c r h2).trans <| (W4_of m c r g1).trans <|
    (W3_of m c r h1).trans <| (W2_of m c r g0).trans (W1_of m c r h0)

/-- The proof data of the three calls. -/
def pdats : (p : Fin 3) → (c : Dev nD) → Dat τ (Elt F) Unit ℕ (UR sig nD τ) ℕ (Pipeline.pin (pcfgs (F := F)) adm p) c
  | ⟨0, _⟩ => fun c => dat0 (Ve1 m) c
  | ⟨1, _⟩ => fun c => dat1 (Ve3 m) c
  | ⟨2, _⟩ => fun c => dat2 (Ve5 m) c
abbrev 𝒱₀ : Variants := Variants.none
abbrev L : GSem nD τ sig → Finset Unit := fun _ => ∅
abbrev lv : GSem nD τ sig → Unit → ℕ := fun _ _ => 0
/-- What rides along beside the buffers: the core's generator register and its record of signals. -/
abbrev R (c : Dev nD) : sProp 𝕄 := iprop((∃ r, prngReg c r) ∗ ∃ W, owes (c : Thread nD τ) (0 : CellTallies nD τ sig Unit) W)
/-- A host stretch over the whole of the core's unscoped buffers. -/
abbrev hseg (ops : List (HloOp τ sig (Elt F))) (hsub : ops.Forall fun op => op.bufs ⊆ StableHlo.tcRefs τ sig) (hfresh : ops.Forall fun op => op.fresh = ∅)
    (W : Dev nD → Valuation τ sig (Elt F)) : Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 :=
  iprop(StableHlo.held (c : Thread nD τ) (Pipeline.ucRefs τ sig) (W7 m c) ∗ ∃ r, prngReg c r)

set_option backward.isDefEq.respectTransparency.types false in
/-- Call 0 as a segment of the chain: the held buffers split into its arrays and the rest, and joined again after it. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (Ve1 m) c|>.loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Ve1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve1 m c) (A_eq0 (Ve1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve1 m c) (Ve2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the chain: the held buffers split into its arrays and the rest, and joined again after it. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (Ve3 m) c|>.loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Ve3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve3 m c) (A_eq1 (Ve3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve3 m c) (Ve4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of the chain: the held buffers split into its arrays and the rest, and joined again after it. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (Ve5 m) c
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (Ve5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve5 m c) (A_eq2 (Ve5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve5 m c) (Ve6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program, segment by segment. -/
abbrev segs : List (Pipeline.Seg (pcfgs (F := F)) adm (pdats m) () defs₀ 𝒱₀ L lv) :=
  [ .host (hseg hostOps0 hostOps0_sub hostOps0_fresh (W0 m)), .region (reg0 m),
    .host (hseg hostOps1 hostOps1_sub hostOps1_fresh (W2 m)), .region (reg1 m),
    .host (hseg hostOps2 hostOps2_sub hostOps2_fresh (W4 m)), .region (reg2 m),
    .host (hseg hostOps3 hostOps3_sub hostOps3_fresh (W6 m)) ]
theorem main_run (c : Dev nD) : main (F := F) c = Pipeline.Seg.run (segs m) := (main_chain c).trans (by chain_rfl)
theorem no_unscoped : ∀ sm : SemLoc sig, sm.isScoped .tc = true := by decide

set_option maxHeartbeats 2000000 in
set_option backward.isDefEq.respectTransparency.types false in
/-- The program from any memory and registers: it ends, every unscoped buffer at the folded contents, every counter zero. -/
theorem run_all : θ_run (defs (F := F)) (onTc (τ := τ) (main (F := F))) ⟨m, fun _ => 0, ρ⟩ fun r =>
    (∀ c : Dev nD, ∀ b ∈ Pipeline.ucRefs τ sig, r.2.mem (((c : Thread nD τ)).1, b) = W7 m c b) ∧ r.2.sem = fun _ => 0 :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h hz => ⟨fun c b hb => h c b hb, funext fun g => hz g (.inr (no_unscoped g.2))⟩)

/-- An argument array ends as it was. -/
theorem W7_arg0 (c : Dev nD) : W7 m c main_arg0 = m ((c : Thread nD τ).loc main_arg0) :=
  W7_arg m c main_arg0 (by decide) (by decide) (by decide) (by decide) (by decide) (by decide) (by decide)
theorem W7_arg1 (c : Dev nD) : W7 m c main_arg1 = m ((c : Thread nD τ).loc main_arg1) :=
  W7_arg m c main_arg1 (by decide) (by decide) (by decide) (by decide) (by decide) (by decide) (by decide)
theorem W7_arg2 (c : Dev nD) : W7 m c main_arg2 = m ((c : Thread nD τ).loc main_arg2) :=
  W7_arg m c main_arg2 (by decide) (by decide) (by decide) (by decide) (by decide) (by decide) (by decide)

/-- The run with the result array named, the arguments unchanged and every counter zero. -/
theorem run_named : θ_run (defs (F := F)) (onTc (τ := τ) (main (F := F))) ⟨m, fun _ => 0, ρ⟩ fun r =>
    (∀ c : Dev nD, r.2.mem ((c.tc : Thread nD τ).loc main_v20) = W7 m c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run _ _ _).mono (fun _ h => ⟨fun c => ⟨h.1 c _ (mem_uc main_v20 (by decide)),
    (h.1 c _ (mem_uc main_arg0 (by decide))).trans (W7_arg0 m c),
    (h.1 c _ (mem_uc main_arg1 (by decide))).trans (W7_arg1 m c),
    (h.1 c _ (mem_uc main_arg2 (by decide))).trans (W7_arg2 m c)⟩, h.2⟩) (run_all m ρ)

end Cert.KernelIdeal.Kit

end
-- ==== Proof.Same.lean ====
/- The two printed programs are the same text, so the frame is proved once and carried over. -/
module

public import proofs.«01_k».proof.Defs
public import proofs.«01_k».proof.Proof.Gen.Kernel
public import proofs.«01_k».proof.Proof.Frames

@[expose] public section
set_option maxRecDepth 100000
noncomputable section
namespace Cert.Proof
open Idealize.ShloMosaic Idealize.ShloMosaic.TcCoe Idealize.SL.Sem

attribute [local instance] Cert.Kernel.Gen.facts Cert.KernelIdeal.Gen.facts

variable {F : FTy → Type} [FloatOps F]

/-- The two printed programs are one: the bodies of their calls, -/
theorem same_defs₀ : Cert.Kernel.defs₀ (F := F) = Cert.KernelIdeal.defs₀ (F := F) := by
  unfold Cert.Kernel.defs₀ Cert.KernelIdeal.defs₀
  congr 1; funext l a
  match l, a with
  | 0, _ => rfl
  | 1, _ => rfl
  | 2, _ => rfl
/-- and the pipelines around them. -/
theorem same_pcfgs : Cert.Kernel.pcfgs (F := F) = Cert.KernelIdeal.pcfgs (F := F) := by
  funext p
  match p with
  | 0 => rfl
  | 1 => rfl
  | 2 => rfl

/-- What the one runs to, the other does. -/
theorem transport {P : Fin 3 → Pipeline.PCfg Cert.KernelIdeal.sig Cert.KernelIdeal.Λ₀ (Elt F)} (D : Defs Cert.KernelIdeal.nD Cert.KernelIdeal.τ Cert.KernelIdeal.sig (Elt F) Cert.KernelIdeal.Λ₀)
    (hP : P = Cert.KernelIdeal.pcfgs (F := F)) (hD : D = Cert.KernelIdeal.defs₀ (F := F))
    (M : Dev Cert.KernelIdeal.nD → Prog (TpuEff Cert.KernelIdeal.nD Cert.KernelIdeal.τ Cert.KernelIdeal.sig (Elt F) (Pipeline.Sig Cert.KernelIdeal.Λ₀ (Fin 3) fun p => (P p).Adm) .tc) PUnit)
    (hM : HEq M (Cert.KernelIdeal.main (F := F))) (s) (Q)
    (h : θ_run (Cert.KernelIdeal.defs (F := F)) (onTc (τ := Cert.KernelIdeal.τ) (Cert.KernelIdeal.main (F := F))) s Q) :
    θ_run (Pipeline.defs P D) (onTc (τ := Cert.KernelIdeal.τ) M) s Q := by
  subst hP hD
  obtain rfl := eq_of_heq hM
  exact h

/-- The program's run as printed first. -/
theorem kernel_run (s) (Q)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  transport _ same_pcfgs same_defs₀ _ (heq_of_eq rfl) s Q h

theorem kernel_frame : Cert.quiescent_Kernel := fun m g _ =>
  kernel_run _ _ ((θ_run _ _ _).mono (fun _ h => ⟨fun c => (h.1 c).2, h.2⟩) (Cert.KernelIdeal.Kit.run_named m g))
theorem kernelIdeal_frame : Cert.quiescent_KernelIdeal := fun m g _ =>
  (θ_run _ _ _).mono (fun _ h => ⟨fun c => (h.1 c).2, h.2⟩) (Cert.KernelIdeal.Kit.run_named m g)

end Cert.Proof
end
-- ==== Proof.Pivots.lean ====
/- The Cholesky factor of a 4 by 4 covariance over the real numbers, and its inverse, with some components left out: a component
   left out has zero for the reciprocal of its pivot, so that its row and column of the inverse are zero. The pivots of the others
   are positive. -/
module

public import Idealize.ShloMosaic.Lib.IdealHost
public import Mathlib.Tactic.FieldSimp
public import Mathlib.Tactic.LinearCombination

@[expose] public section

noncomputable section

namespace Cert.Whiten

/-- The row and the column of the ten entries on and below the diagonal. -/
abbrev row : Fin 10 → Fin 4 := ![0, 1, 1, 2, 2, 2, 3, 3, 3, 3]
abbrev col : Fin 10 → Fin 4 := ![0, 0, 1, 0, 1, 2, 0, 1, 2, 3]

/-- The reciprocal of a pivot's root, or zero if its component is left out. -/
def recip (b : Bool) (p : ℝ) : ℝ := if b then 1 / √p else 0
theorem recip_false (p : ℝ) : recip false p = 0 := rfl
theorem recip_of_not {b : Bool} (h : ¬ b = true) (p : ℝ) : recip b p = 0 := if_neg h

variable (g : Fin 4 → Bool) (C : Fin 10 → ℝ)

/-! The reciprocals `R`, the pivots `P` and the entries `L` below the diagonal. -/
def R0 : ℝ := recip (g 0) (C 0)
def L10 : ℝ := C 1 * R0 g C
def L20 : ℝ := C 3 * R0 g C
def L30 : ℝ := C 6 * R0 g C
def P1 : ℝ := C 2 - L10 g C * L10 g C
def R1 : ℝ := recip (g 1) (P1 g C)
def L21 : ℝ := (C 4 - L20 g C * L10 g C) * R1 g C
def L31 : ℝ := (C 7 - L30 g C * L10 g C) * R1 g C
def P2 : ℝ := C 5 - L20 g C * L20 g C - L21 g C * L21 g C
def R2 : ℝ := recip (g 2) (P2 g C)
def L32 : ℝ := (C 8 - L30 g C * L20 g C - L31 g C * L21 g C) * R2 g C
def P3 : ℝ := C 9 - L30 g C * L30 g C - L31 g C * L31 g C - L32 g C * L32 g C
def R3 : ℝ := recip (g 3) (P3 g C)
/-! The entries `M` of the inverse below the diagonal. -/
def M10 : ℝ := -(L10 g C * R0 g C) * R1 g C
def M20 : ℝ := -(L20 g C * R0 g C + L21 g C * M10 g C) * R2 g C
def M21 : ℝ := -(L21 g C * R1 g C) * R2 g C
def M30 : ℝ := -(L30 g C * R0 g C + L31 g C * M10 g C + L32 g C * M20 g C) * R3 g C
def M31 : ℝ := -(L31 g C * R1 g C + L32 g C * M21 g C) * R3 g C
def M32 : ℝ := -(L32 g C * R2 g C) * R3 g C

/-- A component left out has a zero column. -/
theorem col0 (h : ¬ g 0 = true) : R0 g C = 0 ∧ M10 g C = 0 ∧ M20 g C = 0 ∧ M30 g C = 0 := by
  have h0 : R0 g C = 0 := recip_of_not h _
  have h1 : M10 g C = 0 := by simp [M10, h0]
  have h2 : M20 g C = 0 := by simp [M20, h0, h1]
  exact ⟨h0, h1, h2, by simp [M30, h0, h1, h2]⟩
theorem col1 (h : ¬ g 1 = true) : R1 g C = 0 ∧ M21 g C = 0 ∧ M31 g C = 0 := by
  have h0 : R1 g C = 0 := recip_of_not h _
  have h1 : M21 g C = 0 := by simp [M21, h0]
  exact ⟨h0, h1, by simp [M31, h0, h1]⟩
theorem col2 (h : ¬ g 2 = true) : R2 g C = 0 ∧ M32 g C = 0 := by
  have h0 : R2 g C = 0 := recip_of_not h _
  exact ⟨h0, by simp [M32, h0]⟩
theorem col3 (h : ¬ g 3 = true) : R3 g C = 0 := recip_of_not h _

/-- The quadratic form of the ten entries. -/
def quad (u : Fin 4 → ℝ) : ℝ :=
  u 0 ^ 2 * C 0 + 2 * u 0 * u 1 * C 1 + u 1 ^ 2 * C 2 + 2 * u 0 * u 2 * C 3 + 2 * u 1 * u 2 * C 4 + u 2 ^ 2 * C 5
    + 2 * u 0 * u 3 * C 6 + 2 * u 1 * u 3 * C 7 + 2 * u 2 * u 3 * C 8 + u 3 ^ 2 * C 9

/-- A pivot's root times its reciprocal, and its square. -/
def root (b : Bool) (p : ℝ) : ℝ := if b then √p else 0

theorem root_sq (b : Bool) (p : ℝ) (h : b = true → 0 < p) (v : ℝ) : v * recip b p * (p - root b p * root b p) = 0 := by
  cases b
  · simp [recip]
  · simp [root, Real.mul_self_sqrt (h rfl).le]
theorem root_mul (b : Bool) (p : ℝ) (h : b = true → 0 < p) (v w : ℝ) : v * recip b p * (w - w * recip b p * root b p) = 0 := by
  cases b
  · simp [recip]
  · have : √p ≠ 0 := (Real.sqrt_pos.mpr (h rfl)).ne'
    simp only [recip, root, if_true]
    field_simp
    ring
/-- Eliminating with a pivot leaves nothing in its column. -/
theorem root_elim (b : Bool) (p : ℝ) (h : b = true → 0 < p) (v : ℝ) : v * recip b p - v * recip b p * recip b p * root b p = 0 := by
  cases b
  · simp [recip]
  · have : √p ≠ 0 := (Real.sqrt_pos.mpr (h rfl)).ne'
    simp only [recip, root, if_true]
    field_simp
    ring

variable {C} {ε : ℝ} (hε : 0 < ε) (hC : ∀ u : Fin 4 → ℝ, ε * (u 0 ^ 2 + u 1 ^ 2 + u 2 ^ 2 + u 3 ^ 2) ≤ quad C u)
include hε hC

theorem pos0 : 0 < C 0 := by
  have h := hC ![1, 0, 0, 0]
  simp [quad] at h
  linarith

theorem pos1 : 0 < P1 g C := by
  have h0 := pos0 hε hC
  have e00 := root_sq (g 0) (C 0) (fun _ => h0)
  have e10 := root_mul (g 0) (C 0) (fun _ => h0)
  have el := root_elim (g 0) (C 0) (fun _ => h0)
  set r0 := recip (g 0) (C 0)
  set s0 := root (g 0) (C 0)
  have l10 : L10 g C = C 1 * r0 := rfl
  set u0 := -(L10 g C) * r0 with hu0
  have h := hC ![u0, 1, 0, 0]
  have hq : quad C ![u0, 1, 0, 0] = P1 g C := by
    have a := e00 (-(L10 g C))
    have b := e10 (-(L10 g C)) (C 1)
    have k : L10 g C + u0 * s0 = 0 := by
      have := el (C 1)
      rw [hu0, l10]; linear_combination this
    simp only [quad, P1, Matrix.cons_val]
    rw [← l10, ← hu0] at b
    rw [← hu0] at a
    linear_combination u0 * a + 2 * b + (L10 g C + u0 * s0) * k
  rw [hq] at h
  simp only [Matrix.cons_val] at h
  nlinarith [sq_nonneg u0]

theorem pos2 : 0 < P2 g C := by
  have h0 : g 0 = true → 0 < C 0 := fun _ => pos0 hε hC
  have h1 : g 1 = true → 0 < P1 g C := fun _ => pos1 g hε hC
  let s0 := root (g 0) (C 0)
  let s1 := root (g 1) (P1 g C)
  let u1 := -(L21 g C) * R1 g C
  let u0 := -(L20 g C + u1 * L10 g C) * R0 g C
  have F00 : u0 * (C 0 - s0 * s0) = 0 := root_sq _ _ h0 _
  have F10 : u0 * (C 1 - L10 g C * s0) = 0 := root_mul _ _ h0 _ _
  have F20 : u0 * (C 3 - L20 g C * s0) = 0 := root_mul _ _ h0 _ _
  have F11 : u1 * (P1 g C - s1 * s1) = 0 := root_sq _ _ h1 _
  have F21 : u1 * (C 4 - L20 g C * L10 g C - L21 g C * s1) = 0 := root_mul _ _ h1 _ _
  have H0 : L20 g C + u1 * L10 g C + u0 * s0 = 0 := by
    have e : L20 g C + u1 * L10 g C = (C 3 + u1 * C 1) * R0 g C := by unfold L20 L10; ring
    have : (C 3 + u1 * C 1) * R0 g C - (C 3 + u1 * C 1) * R0 g C * R0 g C * s0 = 0 := root_elim _ _ h0 _
    show L20 g C + u1 * L10 g C + -(L20 g C + u1 * L10 g C) * R0 g C * s0 = 0
    rw [e]
    linear_combination this
  have H1 : L21 g C + u1 * s1 = 0 := by
    have : L21 g C - L21 g C * R1 g C * s1 = 0 := root_elim _ _ h1 _
    show L21 g C + -(L21 g C) * R1 g C * s1 = 0
    linear_combination this
  have h := hC ![u0, u1, 1, 0]
  have hq : quad C ![u0, u1, 1, 0] = P2 g C := by
    have e2 : P2 g C = C 5 - L20 g C * L20 g C - L21 g C * L21 g C := rfl
    have e1 : P1 g C = C 2 - L10 g C * L10 g C := rfl
    rw [e1] at F11
    simp only [quad, Matrix.cons_val]
    rw [e2]
    generalize L10 g C = l10 at *
    generalize L20 g C = l20 at *
    generalize L21 g C = l21 at *
    clear_value u0 u1 s0 s1
    linear_combination u0 * F00 + u1 * F11 + 2 * u1 * F10 + 2 * F20 + 2 * F21
      + (l20 + u1 * l10 + u0 * s0) * H0 + (l21 + u1 * s1) * H1
  rw [hq] at h
  simp only [Matrix.cons_val] at h
  nlinarith [mul_nonneg hε.le (sq_nonneg u0), mul_nonneg hε.le (sq_nonneg u1)]

theorem pos3 : 0 < P3 g C := by
  have h0 : g 0 = true → 0 < C 0 := fun _ => pos0 hε hC
  have h1 : g 1 = true → 0 < P1 g C := fun _ => pos1 g hε hC
  have h2 : g 2 = true → 0 < P2 g C := fun _ => pos2 g hε hC
  let s0 := root (g 0) (C 0)
  let s1 := root (g 1) (P1 g C)
  let s2 := root (g 2) (P2 g C)
  let u2 := -(L32 g C) * R2 g C
  let u1 := -(L31 g C + u2 * L21 g C) * R1 g C
  let u0 := -(L30 g C + u1 * L10 g C + u2 * L20 g C) * R0 g C
  have F00 : u0 * (C 0 - s0 * s0) = 0 := root_sq _ _ h0 _
  have F10 : u0 * (C 1 - L10 g C * s0) = 0 := root_mul _ _ h0 _ _
  have F20 : u0 * (C 3 - L20 g C * s0) = 0 := root_mul _ _ h0 _ _
  have F30 : u0 * (C 6 - L30 g C * s0) = 0 := root_mul _ _ h0 _ _
  have F11 : u1 * (P1 g C - s1 * s1) = 0 := root_sq _ _ h1 _
  have F21 : u1 * (C 4 - L20 g C * L10 g C - L21 g C * s1) = 0 := root_mul _ _ h1 _ _
  have F31 : u1 * (C 7 - L30 g C * L10 g C - L31 g C * s1) = 0 := root_mul _ _ h1 _ _
  have F22 : u2 * (P2 g C - s2 * s2) = 0 := root_sq _ _ h2 _
  have F32 : u2 * (C 8 - L30 g C * L20 g C - L31 g C * L21 g C - L32 g C * s2) = 0 := root_mul _ _ h2 _ _
  have H0 : L30 g C + u1 * L10 g C + u2 * L20 g C + u0 * s0 = 0 := by
    have e : L30 g C + u1 * L10 g C + u2 * L20 g C = (C 6 + u1 * C 1 + u2 * C 3) * R0 g C := by unfold L30 L20 L10; ring
    have : (C 6 + u1 * C 1 + u2 * C 3) * R0 g C - (C 6 + u1 * C 1 + u2 * C 3) * R0 g C * R0 g C * s0 = 0 := root_elim _ _ h0 _
    show L30 g C + u1 * L10 g C + u2 * L20 g C + -(L30 g C + u1 * L10 g C + u2 * L20 g C) * R0 g C * s0 = 0
    rw [e]
    linear_combination this
  have H1 : L31 g C + u2 * L21 g C + u1 * s1 = 0 := by
    have e : L31 g C + u2 * L21 g C = ((C 7 - L30 g C * L10 g C) + u2 * (C 4 - L20 g C * L10 g C)) * R1 g C := by unfold L31 L21; ring
    have : ((C 7 - L30 g C * L10 g C) + u2 * (C 4 - L20 g C * L10 g C)) * R1 g C
        - ((C 7 - L30 g C * L10 g C) + u2 * (C 4 - L20 g C * L10 g C)) * R1 g C * R1 g C * s1 = 0 := root_elim _ _ h1 _
    show L31 g C + u2 * L21 g C + -(L31 g C + u2 * L21 g C) * R1 g C * s1 = 0
    rw [e]
    linear_combination this
  have H2 : L32 g C + u2 * s2 = 0 := by
    have : L32 g C - L32 g C * R2 g C * s2 = 0 := root_elim _ _ h2 _
    show L32 g C + -(L32 g C) * R2 g C * s2 = 0
    linear_combination this
  have h := hC ![u0, u1, u2, 1]
  have hq : quad C ![u0, u1, u2, 1] = P3 g C := by
    have e3 : P3 g C = C 9 - L30 g C * L30 g C - L31 g C * L31 g C - L32 g C * L32 g C := rfl
    have e2 : P2 g C = C 5 - L20 g C * L20 g C - L21 g C * L21 g C := rfl
    have e1 : P1 g C = C 2 - L10 g C * L10 g C := rfl
    rw [e1] at F11
    rw [e2] at F22
    simp only [quad, Matrix.cons_val]
    rw [e3]
    generalize L10 g C = l10 at *
    generalize L20 g C = l20 at *
    generalize L30 g C = l30 at *
    generalize L21 g C = l21 at *
    generalize L31 g C = l31 at *
    generalize L32 g C = l32 at *
    clear_value u0 u1 u2 s0 s1 s2
    linear_combination u0 * F00 + u1 * F11 + u2 * F22 + 2 * u1 * F10 + 2 * u2 * F20 + 2 * F30 + 2 * u2 * F21 + 2 * F31 + 2 * F32
      + (l30 + u1 * l10 + u2 * l20 + u0 * s0) * H0 + (l31 + u2 * l21 + u1 * s1) * H1 + (l32 + u2 * s2) * H2
  rw [hq] at h
  simp only [Matrix.cons_val] at h
  nlinarith [mul_nonneg hε.le (sq_nonneg u0), mul_nonneg hε.le (sq_nonneg u1), mul_nonneg hε.le (sq_nonneg u2)]

end Cert.Whiten
-- ==== Proof.SolvePieces.lean ====
/- The second call's arithmetic, over any type with its six operations: the covariance from the moments, its Cholesky
   factor, the factor's inverse, the coefficients and the biases. Read at a vector of lanes it is what the body stores. -/
module

public import proofs.«01_k».proof.Proof.Solve

@[expose] public section

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The six operations the body uses, and its literals. -/
structure Arith (α : Type) where
  add : α → α → α
  sub : α → α → α
  mul : α → α → α
  div : α → α → α
  sqrt : α → α
  lit : BitVec 32 → α

namespace Arith
variable {α : Type} (A : Arith α)

/-- Minus, as the body writes it. -/
def neg (a : α) : α := A.sub (A.lit 0x00000000#32) a
/-- One over. -/
def inv (a : α) : α := A.div (A.lit 0x3F800000#32) a
/-- A sum over the batch divided by its length, -/
def avg (a : α) : α := A.mul a (A.lit 0x38000000#32)
/-- the covariance entry of a sum of products and two means, off the diagonal -/
def cvo (s m n : α) : α := A.sub (A.avg s) (A.mul m n)
/-- and on it. -/
def cvd (s m : α) : α := A.add (A.cvo s m m) (A.lit 0x3727C5AC#32)

/-! The reciprocals of the pivots and the entries below the diagonal of the Cholesky factor, of the ten covariances `c`. -/
variable (c : Fin 10 → α)
def i0 : α := A.inv (A.sqrt (c 0))
def l10 : α := A.mul (c 1) (A.i0 c)
def l20 : α := A.mul (c 3) (A.i0 c)
def l30 : α := A.mul (c 6) (A.i0 c)
def p1 : α := A.sub (c 2) (A.mul (A.l10 c) (A.l10 c))
def i1 : α := A.inv (A.sqrt (A.p1 c))
def l21 : α := A.mul (A.sub (c 4) (A.mul (A.l20 c) (A.l10 c))) (A.i1 c)
def l31 : α := A.mul (A.sub (c 7) (A.mul (A.l30 c) (A.l10 c))) (A.i1 c)
def p2 : α := A.sub (A.sub (c 5) (A.mul (A.l20 c) (A.l20 c))) (A.mul (A.l21 c) (A.l21 c))
def i2 : α := A.inv (A.sqrt (A.p2 c))
def l32 : α := A.mul (A.sub (A.sub (c 8) (A.mul (A.l30 c) (A.l20 c))) (A.mul (A.l31 c) (A.l21 c))) (A.i2 c)
def p3 : α := A.sub (A.sub (A.sub (c 9) (A.mul (A.l30 c) (A.l30 c))) (A.mul (A.l31 c) (A.l31 c))) (A.mul (A.l32 c) (A.l32 c))
def i3 : α := A.inv (A.sqrt (A.p3 c))
/-! The entries below the diagonal of its inverse. -/
def m10 : α := A.mul (A.neg (A.mul (A.l10 c) (A.i0 c))) (A.i1 c)
def m20 : α := A.mul (A.neg (A.add (A.mul (A.l20 c) (A.i0 c)) (A.mul (A.l21 c) (A.m10 c)))) (A.i2 c)
def m21 : α := A.mul (A.neg (A.mul (A.l21 c) (A.i1 c))) (A.i2 c)
def m30 : α := A.mul (A.neg (A.add (A.add (A.mul (A.l30 c) (A.i0 c)) (A.mul (A.l31 c) (A.m10 c))) (A.mul (A.l32 c) (A.m20 c)))) (A.i3 c)
def m31 : α := A.mul (A.neg (A.add (A.mul (A.l31 c) (A.i1 c)) (A.mul (A.l32 c) (A.m21 c)))) (A.i3 c)
def m32 : α := A.mul (A.neg (A.mul (A.l32 c) (A.i2 c))) (A.i3 c)

/-! The coefficients of a row `a b c d` of the symmetric matrix, one per component, -/
def q0 (g : Fin 4 → α) : α := A.add (A.add (A.add (A.mul (g 0) (A.i0 c)) (A.mul (g 1) (A.m10 c))) (A.mul (g 2) (A.m20 c))) (A.mul (g 3) (A.m30 c))
def q1 (g : Fin 4 → α) : α := A.add (A.add (A.mul (g 1) (A.i1 c)) (A.mul (g 2) (A.m21 c))) (A.mul (g 3) (A.m31 c))
def q2 (g : Fin 4 → α) : α := A.add (A.mul (g 2) (A.i2 c)) (A.mul (g 3) (A.m32 c))
def q3 (g : Fin 4 → α) : α := A.mul (g 3) (A.i3 c)
/-- and the bias of that row, of the offset `b` and the means `m`. -/
def qb (g : Fin 4 → α) (m : Fin 4 → α) (b : α) : α :=
  A.sub (A.sub (A.sub (A.sub b (A.mul (A.q0 c g) (m 0))) (A.mul (A.q1 c g) (m 1))) (A.mul (A.q2 c g) (m 2))) (A.mul (A.q3 c g) (m 3))

/-- The means of the rows of the parameters, -/
def means (p : Fin 28 → α) : Fin 4 → α := ![A.avg (p 0), A.avg (p 1), A.avg (p 2), A.avg (p 3)]
/-- the covariances -/
def covs (p : Fin 28 → α) : Fin 10 → α :=
  ![A.cvd (p 4) (A.avg (p 0)), A.cvo (p 5) (A.avg (p 1)) (A.avg (p 0)), A.cvd (p 6) (A.avg (p 1)),
    A.cvo (p 7) (A.avg (p 2)) (A.avg (p 0)), A.cvo (p 8) (A.avg (p 2)) (A.avg (p 1)), A.cvd (p 9) (A.avg (p 2)),
    A.cvo (p 10) (A.avg (p 3)) (A.avg (p 0)), A.cvo (p 11) (A.avg (p 3)) (A.avg (p 1)), A.cvo (p 12) (A.avg (p 3)) (A.avg (p 2)), A.cvd (p 13) (A.avg (p 3))]
/-- and the rows of the symmetric matrix. -/
def gam (p : Fin 28 → α) : Fin 4 → Fin 4 → α :=
  ![![p 14, p 15, p 17, p 20],
    ![p 15, p 16, p 18, p 21],
    ![p 17, p 18, p 19, p 22],
    ![p 20, p 21, p 22, p 23]]
/-- A row of the symmetric matrix times the factor's inverse -/
def rowq (p : Fin 28 → α) (i : Fin 4) : Fin 4 → α :=
  ![A.q0 (A.covs p) (gam p i), A.q1 (A.covs p) (gam p i), A.q2 (A.covs p) (gam p i), A.q3 (A.covs p) (gam p i)]
/-- and its bias. -/
def rowb (p : Fin 28 → α) (i : Fin 4) : α := A.qb (A.covs p) (gam p i) (A.means p) (p ⟨24 + i.val, by omega⟩)
end Arith

/-- The operations on a vector of lanes. -/
abbrev vecArith : Arith (FVec F S1x512 .f32) where
  add := addf
  sub := subf
  mul := mulf
  div := divf
  sqrt := sqrt
  lit b := broadcast S1x512 (Scalar.ofBits .f32 b)

abbrev rPar (k : Fin 28) : Rect S32x512 :=
  Rect.unit (s := S32x512) ![k.val, 0] S1x512.size (by intro a; have := k.isLt; fin_cases a <;> simp <;> omega)
abbrev rOut : Rect S24x512 := Rect.unit (s := S24x512) ![0, 0] S24x512.size (by decide)
/-- A row of the parameters as the body uses it. -/
def par (ldp : Fin 28 → FVec F S1x512 .f32) (k : Fin 28) : FVec F S1x512 .f32 := shapeCast S1x512 (ldp k) shapeCasts_S1x512_S1x512

/-- The block the body stores: sixteen rows of coefficients, four of biases and four of zeros. -/
def solved (ldp : Fin 28 → FVec F S1x512 .f32) : FVec F S24x512 .f32 :=
  concatenate S24x512 0 [⟨S1x512, vecArith.rowq (par ldp) 0 0⟩, ⟨S1x512, vecArith.rowq (par ldp) 0 1⟩, ⟨S1x512, vecArith.rowq (par ldp) 0 2⟩, ⟨S1x512, vecArith.rowq (par ldp) 0 3⟩,
    ⟨S1x512, vecArith.rowq (par ldp) 1 0⟩, ⟨S1x512, vecArith.rowq (par ldp) 1 1⟩, ⟨S1x512, vecArith.rowq (par ldp) 1 2⟩, ⟨S1x512, vecArith.rowq (par ldp) 1 3⟩,
    ⟨S1x512, vecArith.rowq (par ldp) 2 0⟩, ⟨S1x512, vecArith.rowq (par ldp) 2 1⟩, ⟨S1x512, vecArith.rowq (par ldp) 2 2⟩, ⟨S1x512, vecArith.rowq (par ldp) 2 3⟩,
    ⟨S1x512, vecArith.rowq (par ldp) 3 0⟩, ⟨S1x512, vecArith.rowq (par ldp) 3 1⟩, ⟨S1x512, vecArith.rowq (par ldp) 3 2⟩, ⟨S1x512, vecArith.rowq (par ldp) 3 3⟩,
    ⟨S1x512, vecArith.rowb (par ldp) 0⟩, ⟨S1x512, vecArith.rowb (par ldp) 1⟩, ⟨S1x512, vecArith.rowb (par ldp) 2⟩, ⟨S1x512, vecArith.rowb (par ldp) 3⟩, ⟨S1x512, broadcast S1x512 (Scalar.ofBits .f32 0x00000000#32)⟩, ⟨S1x512, broadcast S1x512 (Scalar.ofBits .f32 0x00000000#32)⟩, ⟨S1x512, broadcast S1x512 (Scalar.ofBits .f32 0x00000000#32)⟩, ⟨S1x512, broadcast S1x512 (Scalar.ofBits .f32 0x00000000#32)⟩] concatenates_S1x512_S1x512_S1x512_S1x512_S1x512_S1x512_S1x512_S1x512_S1x512_S1x512_S1x512_S1x512_S1x512_S1x512_S1x512_S1x512_S1x512_S1x512_S1x512_S1x512_S1x512_S1x512_S1x512_S1x512_S24x512_d0

set_option maxRecDepth 100000 in
set_option maxHeartbeats 8000000 in
/-- The store the run found is this one. -/
theorem kernelRun1_eq (c : Dev nD) (arg0 : Memref sig .tc .vmem S32x512 .f32) (harg0 : arg0.IsWhole) (arg1 : Memref sig .tc .vmem S24x512 .f32) (harg1 : arg1.IsWhole)
    (x0 : Vec F S32x512 .f32) :
    (kernelRun1 c arg0 harg0 arg1 harg1 x0).1 = [⟨rOut, solved (fun k => View.ld x0 (rPar k))⟩] := by
  have h0 : ∀ k, View.ld x0 (rPar k) = View.readAt (Elt F) arg0.view (rPar k).toLoadRect (harg0.unread x0) := fun k => by
    rw [View.readAt_eq_ld, harg0.read_unread]
  simp only [h0]
  sl_kernel_rfl

end Cert.KernelIdeal.Kit
-- ==== Proof.StatsPieces.lean ====
/- The first call's stores in closed form: sixty-four chunks of sixteen rows added into accumulators, the rows of each
   accumulator added, and the ten and four sums put one under another. -/
module

public import proofs.«01_k».proof.Proof.Stats
public import proofs.«01_k».proof.Proof.Apply

@[expose] public section

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole blocks the two outputs' stores go to. -/
abbrev rM1 : Rect S1x8x512 := Rect.unit (s := S1x8x512) ![0, 0, 0] S1x8x512.size (by decide)
abbrev rM2 : Rect S1x16x512 := Rect.unit (s := S1x16x512) ![0, 0, 0] S1x16x512.size (by decide)

/-- Zero, and the first `n` chunks of `g` added on one after another. -/
def accum (g : Fin 64 → FVec F S16x512 .f32) : ℕ → FVec F S16x512 .f32
  | 0 => broadcast S16x512 (Scalar.ofBits .f32 0x00000000#32)
  | n + 1 => addf (accum g n) (g (Fin.ofNat 64 n))
/-- The sixteen rows of an accumulator added up, as one row. -/
def rowSum (a : FVec F S16x512 .f32) : FVec F S1x512 .f32 :=
  shapeCast S1x512 (multiReduction .add [0] S512 a 0x00000000#32 reduces_S16x512_S512 (.inl rfl) rfl) shapeCasts_S512_S1x512
/-- One component's sum over a block, -/
def sumOf (ldx : Fin 64 → Fin 4 → FVec F S16x1x512 .f32) (d : Fin 4) : FVec F S1x512 .f32 :=
  rowSum (accum (fun n => comp ldx n d) 64)
/-- and the sum of the product of two. -/
def prodOf (ldx : Fin 64 → Fin 4 → FVec F S16x1x512 .f32) (r s : Fin 4) : FVec F S1x512 .f32 :=
  rowSum (accum (fun n => mulf (comp ldx n r) (comp ldx n s)) 64)
/-- The block of first moments: four sums over four rows of zeros. -/
def statsM1 (ldx : Fin 64 → Fin 4 → FVec F S16x1x512 .f32) : FVec F S8x512 .f32 :=
  concatenate S8x512 0 [⟨S1x512, sumOf ldx 0⟩, ⟨S1x512, sumOf ldx 1⟩, ⟨S1x512, sumOf ldx 2⟩, ⟨S1x512, sumOf ldx 3⟩,
    ⟨S4x512, broadcast S4x512 (Scalar.ofBits .f32 0x00000000#32)⟩] concatenates_S1x512_S1x512_S1x512_S1x512_S4x512_S8x512_d0
/-- The block of second moments: ten sums over six rows of zeros. -/
def statsM2 (ldx : Fin 64 → Fin 4 → FVec F S16x1x512 .f32) : FVec F S16x512 .f32 :=
  concatenate S16x512 0 [⟨S1x512, prodOf ldx 0 0⟩, ⟨S1x512, prodOf ldx 1 0⟩, ⟨S1x512, prodOf ldx 1 1⟩, ⟨S1x512, prodOf ldx 2 0⟩,
    ⟨S1x512, prodOf ldx 2 1⟩, ⟨S1x512, prodOf ldx 2 2⟩, ⟨S1x512, prodOf ldx 3 0⟩, ⟨S1x512, prodOf ldx 3 1⟩, ⟨S1x512, prodOf ldx 3 2⟩,
    ⟨S1x512, prodOf ldx 3 3⟩, ⟨S6x512, broadcast S6x512 (Scalar.ofBits .f32 0x00000000#32)⟩] concatenates_S1x512_S1x512_S1x512_S1x512_S1x512_S1x512_S1x512_S1x512_S1x512_S1x512_S6x512_S16x512_d0

/-! The stores the runs found are these: at a first step the sums, at a later one the sums added to what is there. -/

set_option maxRecDepth 100000 in
set_option maxHeartbeats 8000000 in
theorem kernelRun0_A_1 (c : Dev nD) (i : grid0.Coords) (arg2 : Memref sig .tc .vmem S1024x4x512 .f32) (harg2 : arg2.IsWhole) (arg3 : Memref sig .tc .vmem S1x8x512 .f32) (harg3 : arg3.IsWhole) (arg4 : Memref sig .tc .vmem S1x16x512 .f32) (harg4 : arg4.IsWhole) (hc0 : cond0_0 i) (hc1 : ¬cond0_1 i)
    (x0 : Vec F S1024x4x512 .f32) :
    (kernelRun0_A c i arg2 harg2 arg3 harg3 arg4 harg4 hc0 hc1 x0).1 = [⟨rM1, shapeCast S1x8x512 (statsM1 (fun n j => View.ld x0 (rChunk n j))) shapeCasts_S8x512_S1x8x512⟩] := by
  have h1 : ∀ n j, View.ld x0 (rChunk n j) = View.readAt (Elt F) arg2.view (rChunk n j).toLoadRect (harg2.unread x0) := fun n j => by
    rw [View.readAt_eq_ld, harg2.read_unread]
  simp only [h1]
  sl_kernel_rfl

set_option maxRecDepth 100000 in
set_option maxHeartbeats 8000000 in
theorem kernelRun0_A_2 (c : Dev nD) (i : grid0.Coords) (arg2 : Memref sig .tc .vmem S1024x4x512 .f32) (harg2 : arg2.IsWhole) (arg3 : Memref sig .tc .vmem S1x8x512 .f32) (harg3 : arg3.IsWhole) (arg4 : Memref sig .tc .vmem S1x16x512 .f32) (harg4 : arg4.IsWhole) (hc0 : cond0_0 i) (hc1 : ¬cond0_1 i)
    (x0 : Vec F S1024x4x512 .f32) :
    (kernelRun0_A c i arg2 harg2 arg3 harg3 arg4 harg4 hc0 hc1 x0).2.1 = [⟨rM2, shapeCast S1x16x512 (statsM2 (fun n j => View.ld x0 (rChunk n j))) shapeCasts_S16x512_S1x16x512⟩] := by
  have h1 : ∀ n j, View.ld x0 (rChunk n j) = View.readAt (Elt F) arg2.view (rChunk n j).toLoadRect (harg2.unread x0) := fun n j => by
    rw [View.readAt_eq_ld, harg2.read_unread]
  simp only [h1]
  sl_kernel_rfl

set_option maxRecDepth 100000 in
set_option maxHeartbeats 8000000 in
theorem kernelRun0_B_1 (c : Dev nD) (i : grid0.Coords) (arg2 : Memref sig .tc .vmem S1024x4x512 .f32) (harg2 : arg2.IsWhole) (arg3 : Memref sig .tc .vmem S1x8x512 .f32) (harg3 : arg3.IsWhole) (arg4 : Memref sig .tc .vmem S1x16x512 .f32) (harg4 : arg4.IsWhole) (hc0 : ¬cond0_0 i) (hc1 : cond0_1 i)
    (x0 : Vec F S1024x4x512 .f32) (xo1 : Vec F S1x8x512 .f32) (xo2 : Vec F S1x16x512 .f32) :
    (kernelRun0_B c i arg2 harg2 arg3 harg3 arg4 harg4 hc0 hc1 x0 xo1 xo2).1 = [⟨rM1, shapeCast S1x8x512 (addf (shapeCast S8x512 (View.ld xo1 rM1) shapeCasts_S1x8x512_S8x512) (statsM1 (fun n j => View.ld x0 (rChunk n j)))) shapeCasts_S8x512_S1x8x512⟩] := by
  have h1 : ∀ n j, View.ld x0 (rChunk n j) = View.readAt (Elt F) arg2.view (rChunk n j).toLoadRect (harg2.unread x0) := fun n j => by
    rw [View.readAt_eq_ld, harg2.read_unread]
  have h2 : View.ld xo1 rM1 = View.readAt (Elt F) arg3.view rM1.toLoadRect (harg3.unread xo1) := by
    rw [View.readAt_eq_ld, harg3.read_unread]
  simp only [h1, h2]
  sl_kernel_rfl

set_option maxRecDepth 100000 in
set_option maxHeartbeats 8000000 in
theorem kernelRun0_B_2 (c : Dev nD) (i : grid0.Coords) (arg2 : Memref sig .tc .vmem S1024x4x512 .f32) (harg2 : arg2.IsWhole) (arg3 : Memref sig .tc .vmem S1x8x512 .f32) (harg3 : arg3.IsWhole) (arg4 : Memref sig .tc .vmem S1x16x512 .f32) (harg4 : arg4.IsWhole) (hc0 : ¬cond0_0 i) (hc1 : cond0_1 i)
    (x0 : Vec F S1024x4x512 .f32) (xo1 : Vec F S1x8x512 .f32) (xo2 : Vec F S1x16x512 .f32) :
    (kernelRun0_B c i arg2 harg2 arg3 harg3 arg4 harg4 hc0 hc1 x0 xo1 xo2).2.1 = [⟨rM2, shapeCast S1x16x512 (addf (shapeCast S16x512 (View.ld xo2 rM2) shapeCasts_S1x16x512_S16x512) (statsM2 (fun n j => View.ld x0 (rChunk n j)))) shapeCasts_S16x512_S1x16x512⟩] := by
  have h1 : ∀ n j, View.ld x0 (rChunk n j) = View.readAt (Elt F) arg2.view (rChunk n j).toLoadRect (harg2.unread x0) := fun n j => by
    rw [View.readAt_eq_ld, harg2.read_unread]
  have h2 : View.ld xo2 rM2 = View.readAt (Elt F) arg4.view rM2.toLoadRect (harg4.unread xo2) := by
    rw [View.readAt_eq_ld, harg4.read_unread]
  simp only [h1, h2]
  sl_kernel_rfl

end Cert.KernelIdeal.Kit
-- ==== Proof.StatsValue.lean ====
/- The first call's result at an index over the extended reals: sums over the rows of a half of the batch. -/
module

public import proofs.«01_k».proof.Proof.StatsPieces
public import proofs.«01_k».proof.Proof.Frames
public import Idealize.ShloMosaic.Lib.Pointwise
public import Idealize.ShloMosaic.Lib.Pipeline.ValueKit
public import Idealize.ShloMosaic.Lib.IdealHost

@[expose] public section

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Pointwise

/-- An accumulator at an index is the sum of the chunks there. -/
theorem accum_apply (g : Fin 64 → FVec Ideal S16x512 .f32) (i : S16x512.Idx) : accum g 64 i = ∑ n : Fin 64, g n i := by
  have h : ∀ n, accum g n i = ∑ k ∈ Finset.range n, g (Fin.ofNat 64 k) i := by
    intro n
    induction n with
    | zero => rw [Finset.sum_range_zero]; exact Ideal.ofBits_zero_f32
    | succ n ih => rw [Finset.sum_range_succ, ← ih]; rfl
  rw [h, Finset.sum_range]
  exact Finset.sum_congr rfl fun k _ => by rw [show Fin.ofNat 64 k.val = k from Fin.ext (Nat.mod_eq_of_lt k.isLt)]

theorem rowSum_apply (a : FVec Ideal S16x512 .f32) (f : Fin 512) : rowSum a (ix2 0 f) = ∑ r : Fin 16, a (ix2 r f) := by
  pointwise [rowSum]

theorem comp_apply (ldx : Fin 64 → Fin 4 → FVec Ideal S16x1x512 .f32) (n : Fin 64) (d : Fin 4) (r : Fin 16) (f : Fin 512) :
    comp ldx n d (ix2 r f) = ldx n d (ix3 r 0 f) := by
  pointwise [comp]

/-- The components of the ten products, in order: the row -/
def tr : Fin 10 → Fin 4 := ![0, 1, 1, 2, 2, 2, 3, 3, 3, 3]
/-- and the column of the lower triangle. -/
def tc : Fin 10 → Fin 4 := ![0, 0, 1, 0, 1, 2, 0, 1, 2, 3]

theorem sumOf_apply (ldx : Fin 64 → Fin 4 → FVec Ideal S16x1x512 .f32) (d : Fin 4) (f : Fin 512) :
    sumOf ldx d (ix2 0 f) = ∑ r : Fin 16, ∑ n : Fin 64, ldx n d (ix3 r 0 f) := by
  unfold sumOf
  rw [rowSum_apply]
  exact Finset.sum_congr rfl fun r _ => by rw [accum_apply]; exact Finset.sum_congr rfl fun n _ => comp_apply ldx n d r f

theorem prodOf_apply (ldx : Fin 64 → Fin 4 → FVec Ideal S16x1x512 .f32) (d e : Fin 4) (f : Fin 512) :
    prodOf ldx d e (ix2 0 f) = ∑ r : Fin 16, ∑ n : Fin 64, ldx n d (ix3 r 0 f) * ldx n e (ix3 r 0 f) := by
  unfold prodOf
  rw [rowSum_apply]
  exact Finset.sum_congr rfl fun r _ => by
    rw [accum_apply]
    exact Finset.sum_congr rfl fun n _ => by
      rw [← comp_apply ldx n d r f, ← comp_apply ldx n e r f]; rfl

theorem statsM1_apply (ldx : Fin 64 → Fin 4 → FVec Ideal S16x1x512 .f32) (d : Fin 4) (f : Fin 512) :
    statsM1 ldx (ix2 ⟨d.val, by omega⟩ f) = sumOf ldx d (ix2 0 f) := by
  fin_cases d <;> pointwise [statsM1] <;> rfl

theorem statsM2_apply (ldx : Fin 64 → Fin 4 → FVec Ideal S16x1x512 .f32) (k : Fin 10) (f : Fin 512) :
    statsM2 ldx (ix2 ⟨k.val, by omega⟩ f) = prodOf ldx (tr k) (tc k) (ix2 0 f) := by
  fin_cases k <;> pointwise [statsM2] <;> rfl

variable (V : Ent Ideal)

/-- The array of the first call's input as a function of its coordinates. -/
abbrev xin (c : Dev nD) (b : Fin 32768) (d : Fin 4) (f : Fin 512) : EReal := V c main_v0 (ix3 b d f)

/-- Window 0's index map, and the outputs': point `t` reads block `t`, and writes block `t / 16`. -/
theorem idx0_0 : ∀ t : Fin cfg0.N, win0_0.index t 0 = t.val ∧ win0_0.index t 1 = 0 ∧ win0_0.index t 2 = 0 := by decide +kernel
theorem idx0_1 : ∀ t : Fin cfg0.N, win0_1.index t 0 = t.val / 16 ∧ win0_1.index t 1 = 0 ∧ win0_1.index t 2 = 0 := by decide +kernel
theorem idx0_2 : ∀ t : Fin cfg0.N, win0_2.index t 0 = t.val / 16 ∧ win0_2.index t 1 = 0 ∧ win0_2.index t 2 = 0 := by decide +kernel

/-- Window 0's block at a point: its 1024 rows of the array. -/
theorem iblk0_apply (c : Dev nD) (t : Fin cfg0.N) (r : Fin 1024) (d : Fin 4) (f : Fin 512)
    (h : t.val * 1024 + r.val < 32768) :
    (iblk0 V c 0 t : Vec Ideal S1024x4x512 .f32) (ix3 r d f) = xin V c ⟨t.val * 1024 + r.val, h⟩ d f := by
  obtain ⟨e0, e1, e2⟩ := idx0_0 t
  blk_ext! [iblk0, xin, e0, e1, e2]

/-- A function on the rows, zero past the last. -/
def ext (g : Fin 32768 → EReal) (n : ℕ) : EReal := if h : n < 32768 then g ⟨n, h⟩ else 0
/-- The sum of `g` over the rows of block `t`. -/
def bsum (g : Fin 32768 → EReal) (t : ℕ) : EReal := ∑ q ∈ Finset.range 1024, ext g (t * 1024 + q)
/-- The sum of `g` over the rows of half `p`. -/
def hsum (g : Fin 32768 → EReal) (p : ℕ) : EReal := ∑ s ∈ Finset.range 16, bsum g (16 * p + s)

/-- Sixteen rows of sixty-four chunks are the rows of a block. -/
theorem chunks_sum (g : Fin 32768 → EReal) (t : ℕ) (T : Fin 64 → Fin 16 → EReal)
    (h : ∀ n r, T n r = ext g (t * 1024 + (n.val * 16 + r.val))) : ∑ r : Fin 16, ∑ n : Fin 64, T n r = bsum g t := by
  rw [Finset.sum_comm]
  simp only [h]
  rw [Fin.sum_univ_univ_mul_add 64 16 (fun l => ext g (t * 1024 + l)), Fin.sum_univ_eq_sum_range (fun l => ext g (t * 1024 + l))]
  rfl

/-- The loads of a block as the closed forms take them. -/
abbrev lds (c : Dev nD) (t : Fin cfg0.N) : Fin 64 → Fin 4 → FVec Ideal S16x1x512 .f32 :=
  fun n j => View.ld (iblk0 V c 0 t : Vec Ideal S1024x4x512 .f32) (rChunk n j)

/-- A chunk's element is an element of the input array. -/
theorem chunk_apply (c : Dev nD) (t : Fin cfg0.N) (n : Fin 64) (d : Fin 4) (r : Fin 16) (f : Fin 512)
    (h : t.val * 1024 + (n.val * 16 + r.val) < 32768) :
    lds V c t n d (ix3 r 0 f) = xin V c ⟨t.val * 1024 + (n.val * 16 + r.val), h⟩ d f := by
  have hn := n.isLt; have hr := r.isLt
  rw [← iblk0_apply V c t ⟨n.val * 16 + r.val, by omega⟩ d f h]
  show (iblk0 V c 0 t : Vec Ideal S1024x4x512 .f32) ((rChunk n d).idx (ix3 r 0 f)) = _
  congr 1
  funext a
  apply Fin.ext
  fin_cases a <;> simp [LoadRect.idx, Rect.unit] <;> omega

/-- A block's first moments -/
theorem blockM1 (c : Dev nD) (t : Fin cfg0.N) (d : Fin 4) (f : Fin 512) :
    statsM1 (lds V c t) (ix2 ⟨d.val, by omega⟩ f) = bsum (fun b => xin V c b d f) t.val := by
  have ht : t.val < 32 := Nat.lt_of_lt_of_eq t.isLt N_0
  rw [statsM1_apply, sumOf_apply]
  refine chunks_sum _ _ _ fun n r => ?_
  have h : t.val * 1024 + (n.val * 16 + r.val) < 32768 := by have := n.isLt; have := r.isLt; omega
  rw [chunk_apply V c t n d r f h]; unfold ext; rw [dif_pos h]
/-- and second moments. -/
theorem blockM2 (c : Dev nD) (t : Fin cfg0.N) (k : Fin 10) (f : Fin 512) :
    statsM2 (lds V c t) (ix2 ⟨k.val, by omega⟩ f) = bsum (fun b => xin V c b (tr k) f * xin V c b (tc k) f) t.val := by
  have ht : t.val < 32 := Nat.lt_of_lt_of_eq t.isLt N_0
  rw [statsM2_apply, prodOf_apply]
  refine chunks_sum _ _ _ fun n r => ?_
  have h : t.val * 1024 + (n.val * 16 + r.val) < 32768 := by have := n.isLt; have := r.isLt; omega
  rw [chunk_apply V c t n _ r f h, chunk_apply V c t n _ r f h]; unfold ext; rw [dif_pos h]

/-- What the points of a run leave in output 1's buffer, added up. -/
theorem outs1_apply (c : Dev nD) (t : Fin cfg0.N) (d : Fin 4) (f : Fin 512) :
    (outsAt0 V c t.val t.isLt).1 (ix3 0 ⟨d.val, by omega⟩ f)
      = ∑ s ∈ Finset.range (t.val % 16 + 1), bsum (fun b => xin V c b d f) (16 * (t.val / 16) + s) := by
  have key := Pipeline.eq_sum_of_reset_step_apply (ι := Unit) (fun n h _ => (outsAt0 V c n h).1 (ix3 0 ⟨d.val, by omega⟩ f)) 16 (fun _ => 0)
    (fun t _ => bsum (fun b => xin V c b d f) t)
    (fun t h0 _ => by
      have h1 : ¬1 ≤ t.val % 16 := by omega
      rw [outsAt0_A V c t h0 h1]
      unfold out0_A_1
      dsimp only
      rw [kernelRun0_A_1, View.canon_cons_unit_lit _ _ _ (by intro a; fin_cases a <;> rfl), ← blockM1 V c t d f, zero_add]
      pointwise; rfl)
    (fun t h0 _ => by
      have h1 : 1 ≤ t.val % 16 := by omega
      rw [outsAt0_B V c t h0 h1]
      unfold out0_B_1
      dsimp only
      rw [kernelRun0_B_1, View.canon_cons_unit_lit _ _ _ (by intro a; fin_cases a <;> rfl), ← blockM1 V c t d f,
        View.ld_unit_lit _ _ (by intro a; fin_cases a <;> rfl)]
      pointwise; rfl)
    t ()
  rw [zero_add] at key
  exact key

/-- Output 1's array after the call: the moments of each half of the batch. -/
theorem arr1_apply (c : Dev nD) (p : Fin 2) (d : Fin 4) (f : Fin 512) :
    ((dat0 V c).arrAt 1 cfg0.N : S2x8x512.Idx → EReal) (ix3 p ⟨d.val, by omega⟩ f) = hsum (fun b => xin V c b d f) p.val := by
  have hP := (dat0 V c).arrAt_forall_of_covers 1 (fun (i : S2x8x512.Idx) (v : EReal) => ∀ (d : Fin 4) (f : Fin 512), (i 1).val = d.val → (i 2).val = f.val →
      v = hsum (fun b => xin V c b d f) (i 0).val) (by decide +kernel) (fun t hf y => ?_) (ix3 p ⟨d.val, by omega⟩ f)
  · exact hP d f rfl rfl
  · intro d f hd hf'
    have ht : t.val < 32 := Nat.lt_of_lt_of_eq t.isLt N_0
    have h15 := (flush0_1 t).mp hf
    obtain ⟨e0, e1, e2⟩ := idx0_1 t
    have hy : (cfg0.win 1).xinj (cfg0.grid.coords t) y = (ix3 0 ⟨d.val, by omega⟩ f : S1x8x512.Idx) := by
      blk_simp [e0, e1, e2] at hd hf'
      have h0 : (y 0 : ℕ) < 1 := (y 0).isLt
      funext a
      apply Fin.ext
      fin_cases a
      · show (y 0 : ℕ) = 0; omega
      · exact hd
      · exact hf'
    have hp : (((cfg0.win 1).blk t).view.emb y 0 : ℕ) = t.val / 16 := by
      have h0 : (y 0 : ℕ) < 1 := (y 0).isLt
      blk_simp [e0, e1, e2]
    rw [hp]
    show ((dat0 V c).after 1 t ((cfg0.win 1).xinj (cfg0.grid.coords t) y) : EReal) = _
    rw [after0_1]
    refine (congrArg (outsAt0 V c t.val t.isLt).1 hy).trans ?_
    rw [outs1_apply, h15]
    rfl

/-- What the points of a run leave in output 2's buffer, added up. -/
theorem outs2_apply (c : Dev nD) (t : Fin cfg0.N) (d : Fin 10) (f : Fin 512) :
    (outsAt0 V c t.val t.isLt).2 (ix3 0 ⟨d.val, by omega⟩ f)
      = ∑ s ∈ Finset.range (t.val % 16 + 1), bsum (fun b => xin V c b (tr d) f * xin V c b (tc d) f) (16 * (t.val / 16) + s) := by
  have key := Pipeline.eq_sum_of_reset_step_apply (ι := Unit) (fun n h _ => (outsAt0 V c n h).2 (ix3 0 ⟨d.val, by omega⟩ f)) 16 (fun _ => 0)
    (fun t _ => bsum (fun b => xin V c b (tr d) f * xin V c b (tc d) f) t)
    (fun t h0 _ => by
      have h1 : ¬1 ≤ t.val % 16 := by omega
      rw [outsAt0_A V c t h0 h1]
      unfold out0_A_2
      dsimp only
      rw [kernelRun0_A_2, View.canon_cons_unit_lit _ _ _ (by intro a; fin_cases a <;> rfl), ← blockM2 V c t d f, zero_add]
      pointwise; rfl)
    (fun t h0 _ => by
      have h1 : 1 ≤ t.val % 16 := by omega
      rw [outsAt0_B V c t h0 h1]
      unfold out0_B_2
      dsimp only
      rw [kernelRun0_B_2, View.canon_cons_unit_lit _ _ _ (by intro a; fin_cases a <;> rfl), ← blockM2 V c t d f,
        View.ld_unit_lit _ _ (by intro a; fin_cases a <;> rfl)]
      pointwise; rfl)
    t ()
  rw [zero_add] at key
  exact key

/-- Output 2's array after the call: the moments of each half of the batch. -/
theorem arr2_apply (c : Dev nD) (p : Fin 2) (d : Fin 10) (f : Fin 512) :
    ((dat0 V c).arrAt 2 cfg0.N : S2x16x512.Idx → EReal) (ix3 p ⟨d.val, by omega⟩ f) = hsum (fun b => xin V c b (tr d) f * xin V c b (tc d) f) p.val := by
  have hP := (dat0 V c).arrAt_forall_of_covers 2 (fun (i : S2x16x512.Idx) (v : EReal) => ∀ (d : Fin 10) (f : Fin 512), (i 1).val = d.val → (i 2).val = f.val →
      v = hsum (fun b => xin V c b (tr d) f * xin V c b (tc d) f) (i 0).val) (by decide +kernel) (fun t hf y => ?_) (ix3 p ⟨d.val, by omega⟩ f)
  · exact hP d f rfl rfl
  · intro d f hd hf'
    have ht : t.val < 32 := Nat.lt_of_lt_of_eq t.isLt N_0
    have h15 := (flush0_2 t).mp hf
    obtain ⟨e0, e1, e2⟩ := idx0_2 t
    have hy : (cfg0.win 2).xinj (cfg0.grid.coords t) y = (ix3 0 ⟨d.val, by omega⟩ f : S1x16x512.Idx) := by
      blk_simp [e0, e1, e2] at hd hf'
      have h0 : (y 0 : ℕ) < 1 := (y 0).isLt
      funext a
      apply Fin.ext
      fin_cases a
      · show (y 0 : ℕ) = 0; omega
      · exact hd
      · exact hf'
    have hp : (((cfg0.win 2).blk t).view.emb y 0 : ℕ) = t.val / 16 := by
      have h0 : (y 0 : ℕ) < 1 := (y 0).isLt
      blk_simp [e0, e1, e2]
    rw [hp]
    show ((dat0 V c).after 2 t ((cfg0.win 2).xinj (cfg0.grid.coords t) y) : EReal) = _
    rw [after0_2]
    refine (congrArg (outsAt0 V c t.val t.isLt).2 hy).trans ?_
    rw [outs2_apply, h15]
    rfl

end Cert.KernelIdeal.Kit
-- ==== Proof.SolveValue.lean ====
/- The second call's result at an index over the extended reals. -/
module

public import proofs.«01_k».proof.Proof.SolvePieces
public import proofs.«01_k».proof.Proof.StatsValue

@[expose] public section

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Pointwise

/-- The operations on the extended reals. -/
abbrev idealArith : Arith EReal where
  add a b := a + b
  sub a b := a - b
  mul a b := a * b
  div := Ideal.div
  sqrt := Ideal.sqrt
  lit b := Ideal.ofBits .f32 b

/-- The operations on a vector of lanes are the lanes' own. -/
theorem rowq_apply (P : Fin 28 → FVec Ideal S1x512 .f32) (i j : Fin 4) (f : Fin 512) :
    vecArith.rowq P i j (ix2 0 f) = idealArith.rowq (fun k => P k (ix2 0 f)) i j := by
  fin_cases i <;> fin_cases j <;> rfl
theorem rowb_apply (P : Fin 28 → FVec Ideal S1x512 .f32) (i : Fin 4) (f : Fin 512) :
    vecArith.rowb P i (ix2 0 f) = idealArith.rowb (fun k => P k (ix2 0 f)) i := by
  fin_cases i <;> rfl

theorem par_apply (ldp : Fin 28 → FVec Ideal S1x512 .f32) (k : Fin 28) (f : Fin 512) : par ldp k (ix2 0 f) = ldp k (ix2 0 f) := by
  pointwise [par]

theorem solved_q (ldp : Fin 28 → FVec Ideal S1x512 .f32) (i j : Fin 4) (f : Fin 512) :
    solved ldp (ix2 ⟨4 * i.val + j.val, by omega⟩ f) = idealArith.rowq (fun k => ldp k (ix2 0 f)) i j := by
  have h : solved ldp (ix2 ⟨4 * i.val + j.val, by omega⟩ f) = vecArith.rowq (par ldp) i j (ix2 0 f) := by
    fin_cases i <;> fin_cases j <;> pointwise [solved] <;> rfl
  rw [h, rowq_apply]
  simp only [par_apply]
theorem solved_b (ldp : Fin 28 → FVec Ideal S1x512 .f32) (i : Fin 4) (f : Fin 512) :
    solved ldp (ix2 ⟨16 + i.val, by omega⟩ f) = idealArith.rowb (fun k => ldp k (ix2 0 f)) i := by
  have h : solved ldp (ix2 ⟨16 + i.val, by omega⟩ f) = vecArith.rowb (par ldp) i (ix2 0 f) := by
    fin_cases i <;> pointwise [solved] <;> rfl
  rw [h, rowb_apply]
  simp only [par_apply]

variable (V : Ent Ideal)

/-- The parameters' rows at a lane. -/
abbrev parAt (c : Dev nD) (f : Fin 512) (k : Fin 28) : EReal := V c main_v16 (ix2 ⟨k.val, by omega⟩ f)

theorem idx1_0 : ∀ t : Fin cfg1.N, win1_0.index t 0 = 0 ∧ win1_0.index t 1 = 0 := by decide +kernel
theorem idx1_1 : ∀ t : Fin cfg1.N, win1_1.index t 0 = 0 ∧ win1_1.index t 1 = 0 := by decide +kernel

theorem ldp_apply (c : Dev nD) (t : Fin cfg1.N) (k : Fin 28) (f : Fin 512) :
    (View.ld (iblk1 V c 0 t : Vec Ideal S32x512 .f32) (rPar k) : S1x512.Idx → EReal) (ix2 0 f) = parAt V c f k := by
  obtain ⟨e0, e1⟩ := idx1_0 t
  have h : (iblk1 V c 0 t : Vec Ideal S32x512 .f32) (ix2 ⟨k.val, by omega⟩ f) = parAt V c f k := by
    blk_ext! [iblk1, parAt, e0, e1]
  rw [← h]
  show (iblk1 V c 0 t : Vec Ideal S32x512 .f32) ((rPar k).idx (ix2 0 f)) = _
  congr 1
  funext a
  apply Fin.ext
  fin_cases a <;> simp [LoadRect.idx, Rect.unit]

/-- The second call's array after it: the coefficients in rows 0 to 15, the biases in rows 16 to 19. -/
theorem arr_solve (c : Dev nD) (k : Fin 20) (f : Fin 512) :
    ((dat1 V c).arrAt 1 cfg1.N : S24x512.Idx → EReal) (ix2 ⟨k.val, by omega⟩ f)
      = if h : k.val < 16 then idealArith.rowq (parAt V c f) ⟨k.val / 4, by omega⟩ ⟨k.val % 4, by omega⟩
        else idealArith.rowb (parAt V c f) ⟨k.val - 16, by omega⟩ := by
  have hP := (dat1 V c).arrAt_forall_of_covers 1 (fun (i : S24x512.Idx) (v : EReal) => ∀ (k : Fin 20) (f : Fin 512), (i 0).val = k.val → (i 1).val = f.val →
      v = if h : k.val < 16 then idealArith.rowq (parAt V c f) ⟨k.val / 4, by omega⟩ ⟨k.val % 4, by omega⟩
        else idealArith.rowb (parAt V c f) ⟨k.val - 16, by omega⟩) (by decide +kernel) (fun t hf y => ?_) (ix2 ⟨k.val, by omega⟩ f)
  · exact hP k f rfl rfl
  · intro k f hk hf'
    obtain ⟨e0, e1⟩ := idx1_1 t
    have hy : (cfg1.win 1).xinj (cfg1.grid.coords t) y = (ix2 ⟨k.val, by omega⟩ f : S24x512.Idx) := by
      blk_simp [e0, e1] at hk hf'
      funext a
      apply Fin.ext
      fin_cases a
      · exact hk
      · exact hf'
    show ((dat1 V c).after 1 t ((cfg1.win 1).xinj (cfg1.grid.coords t) y) : EReal) = _
    rw [after1_1]
    refine (congrArg (out1 c t (iblk1 V c 0 t)) hy).trans ?_
    unfold out1
    rw [kernelRun1_eq, View.canon_cons_unit_lit _ _ _ (by intro a; fin_cases a <;> rfl)]
    have hl : (fun k : Fin 28 => (View.ld (iblk1 V c 0 t : Vec Ideal S32x512 .f32) (rPar k) : S1x512.Idx → EReal) (ix2 0 f)) = parAt V c f :=
      funext fun k => ldp_apply V c t k f
    by_cases h : k.val < 16
    · rw [dif_pos h, ← hl, ← solved_q (fun k => View.ld (iblk1 V c 0 t : Vec Ideal S32x512 .f32) (rPar k))]
      exact congrArg (solved (F := Ideal) _) (congrArg (fun r : Fin 24 => ix2 r f) (Fin.ext (by show k.val = 4 * (k.val / 4) + k.val % 4; omega)))
    · rw [dif_neg h, ← hl, ← solved_b (fun k => View.ld (iblk1 V c 0 t : Vec Ideal S32x512 .f32) (rPar k))]
      exact congrArg (solved (F := Ideal) _) (congrArg (fun r : Fin 24 => ix2 r f) (Fin.ext (by show k.val = 16 + (k.val - 16); omega)))

end Cert.KernelIdeal.Kit
-- ==== Proof.ApplyValue.lean ====
/- The third call's result at an index over the extended reals. -/
module

public import proofs.«01_k».proof.Proof.SolveValue

@[expose] public section

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Pointwise

variable (V : Ent Ideal)

/-- One entry of the result: the bias, then the four products added on. -/
abbrev applied (A : Fin 20 → EReal) (X : Fin 4 → EReal) (i : Fin 4) : EReal :=
  A ⟨16 + i.val, by omega⟩ + A ⟨4 * i.val, by omega⟩ * X 0 + A ⟨4 * i.val + 1, by omega⟩ * X 1
    + A ⟨4 * i.val + 2, by omega⟩ * X 2 + A ⟨4 * i.val + 3, by omega⟩ * X 3

theorem ychunk_apply (lda : Fin 20 → FVec Ideal S1x512 .f32) (ldx : Fin 64 → Fin 4 → FVec Ideal S16x1x512 .f32) (n : Fin 64) (i : Fin 4) (b : Fin 16) (f : Fin 512) :
    ychunk lda ldx n i (ix3 b 0 f) = applied (fun k => lda k (ix2 0 f)) (fun j => ldx n j (ix3 b 0 f)) i := by
  pointwise [ychunk, coef, comp]

theorem idx2_0 : ∀ t : Fin cfg2.N, win2_0.index t 0 = 0 ∧ win2_0.index t 1 = 0 := by decide +kernel
theorem idx2_1 : ∀ t : Fin cfg2.N, win2_1.index t 0 = t.val ∧ win2_1.index t 1 = 0 ∧ win2_1.index t 2 = 0 := by decide +kernel
theorem idx2_2 : ∀ t : Fin cfg2.N, win2_2.index t 0 = t.val ∧ win2_2.index t 1 = 0 ∧ win2_2.index t 2 = 0 := by decide +kernel

/-- The coefficients' rows at a lane, and the third call's input at a lane. -/
abbrev coefAt (c : Dev nD) (f : Fin 512) (k : Fin 20) : EReal := V c main_v18 (ix2 k f)

theorem coef_row (c : Dev nD) (t : Fin cfg2.N) (k : Fin 20) (f : Fin 512) :
    (View.ld (cblk V c t cpad) (rCoef k) : S1x512.Idx → EReal) (ix2 0 f) = coefAt V c f k := by
  obtain ⟨e0, e1⟩ := idx2_0 t
  have hm : (cfg2.win 0).moved (cfg2.grid.coords t) ((rCoef k).idx (ix2 0 f)) = true :=
    ((cfg2.win 0).moved_iff _ _).mpr fun a => by
      rw [xsize2_0]
      have := k.isLt; have := f.isLt
      fin_cases a <;> simp [LoadRect.idx, Rect.unit]
  show Window.fill _ _ _ _ _ = _
  unfold Window.fill
  rw [dif_pos hm]
  have h : (rCoef k).idx (ix2 0 f) = (ix2 ⟨k.val, by omega⟩ f : S24x512.Idx) := by
    funext a
    apply Fin.ext
    fin_cases a <;> simp [LoadRect.idx, Rect.unit]
  have h0 : ((rCoef k).idx (ix2 0 f) 0).val = k.val := by rw [h]; rfl
  have h1 : ((rCoef k).idx (ix2 0 f) 1).val = f.val := by rw [h]; rfl
  blk_ext! [iblk2, coefAt, e0, e1, h0, h1]

theorem iblk2_apply (c : Dev nD) (t : Fin cfg2.N) (b : Fin 1024) (d : Fin 4) (f : Fin 512) :
    (iblk2 V c 1 t : S1024x4x512.Idx → EReal) (ix3 b d f)
      = xin V c ⟨t.val * 1024 + b.val, by have ht : t.val < 32 := Nat.lt_of_lt_of_eq t.isLt N_2; omega⟩ d f := by
  obtain ⟨e0, e1, e2⟩ := idx2_1 t
  blk_ext! [iblk2, e0, e1, e2]

theorem xrow (c : Dev nD) (t : Fin cfg2.N) (n : Fin 64) (d : Fin 4) (b : Fin 16) (f : Fin 512) :
    (View.ld (iblk2 V c 1 t : Vec Ideal S1024x4x512 .f32) (rChunk n d) : S16x1x512.Idx → EReal) (ix3 b 0 f)
      = xin V c ⟨t.val * 1024 + (16 * n.val + b.val), by have ht : t.val < 32 := Nat.lt_of_lt_of_eq t.isLt N_2; omega⟩ d f := by
  rw [← iblk2_apply V c t ⟨16 * n.val + b.val, by omega⟩ d f]
  show (iblk2 V c 1 t : S1024x4x512.Idx → EReal) ((rChunk n d).idx (ix3 b 0 f)) = _
  congr 1
  funext a
  apply Fin.ext
  fin_cases a <;> simp [LoadRect.idx, Rect.unit]

/-- A point's block of the result. -/
theorem out2_apply (c : Dev nD) (t : Fin cfg2.N) (b : Fin 1024) (i : Fin 4) (f : Fin 512) :
    (out2 V c t : S1024x4x512.Idx → EReal) (ix3 b i f)
      = applied (coefAt V c f) (fun d => xin V c ⟨t.val * 1024 + b.val, by have ht : t.val < 32 := Nat.lt_of_lt_of_eq t.isLt N_2; omega⟩ d f) i := by
  have ht : t.val < 32 := Nat.lt_of_lt_of_eq t.isLt N_2
  refine (View.canon_apply_of_pieces (fun y : S1024x4x512.Idx => applied (coefAt V c (y 2)) (fun d => xin V c ⟨t.val * 1024 + (y 0).val, by
      have h : (y 0).val < 1024 := (y 0).isLt
      omega⟩ d (y 2)) (y 1)) _ ?_ (ix3 b i f) (cover2 _ _ _)).trans rfl
  intro p hp x
  obtain ⟨k, rfl⟩ := List.mem_ofFn.mp hp
  dsimp only
  generalize (⟨63 - k.val / 4, by omega⟩ : Fin 64) = n
  generalize (⟨3 - k.val % 4, by omega⟩ : Fin 4) = i'
  obtain ⟨b', z, f', rfl⟩ : ∃ (b' : Fin 16) (z : Fin 1) (f' : Fin 512), x = ix3 b' z f' := ⟨x 0, x 1, x 2, by funext a; fin_cases a <;> rfl⟩
  obtain rfl : z = 0 := Subsingleton.elim _ _
  rw [ychunk_apply]
  have h0 : (rChunk n i').emb (ix3 b' 0 f') = (ix3 ⟨16 * n.val + b'.val, by omega⟩ i' f' : S1024x4x512.Idx) := by
    funext a
    apply Fin.ext
    fin_cases a <;> simp [Rect.emb, Rect.unit]
  rw [h0]
  have hA : (fun k => (View.ld (cblk V c t cpad) (rCoef k) : S1x512.Idx → EReal) (ix2 0 f')) = coefAt V c f' := funext fun k => coef_row V c t k f'
  exact congrArg₂ (fun A X => applied A X i') hA (funext fun j => xrow V c t n j b' f')

/-- The third call's array after it. -/
theorem arr_apply (c : Dev nD) (b : Fin 32768) (i : Fin 4) (f : Fin 512) :
    ((dat2 V c).arrAt 2 cfg2.N : S32768x4x512.Idx → EReal) (ix3 b i f) = applied (coefAt V c f) (fun d => xin V c b d f) i := by
  have hP := (dat2 V c).arrAt_forall_of_covers 2 (fun (y : S32768x4x512.Idx) (v : EReal) => ∀ (b : Fin 32768) (i : Fin 4) (f : Fin 512),
      (y 0).val = b.val → (y 1).val = i.val → (y 2).val = f.val → v = applied (coefAt V c f) (fun d => xin V c b d f) i) (by decide +kernel) (fun t hf y => ?_) (ix3 b i f)
  · exact hP b i f rfl rfl rfl
  · intro b i f hb hi hf'
    have ht : t.val < 32 := Nat.lt_of_lt_of_eq t.isLt N_2
    obtain ⟨e0, e1, e2⟩ := idx2_2 t
    have hy : ∃ h, (cfg2.win 2).xinj (cfg2.grid.coords t) y = (ix3 ⟨b.val - t.val * 1024, h⟩ i f : S1024x4x512.Idx) ∧ t.val * 1024 ≤ b.val := by
      have hy0 : ((cfg2.win 2).xinj (cfg2.grid.coords t) y 0).val < 1024 := ((cfg2.win 2).xinj (cfg2.grid.coords t) y 0).isLt
      have hyy : ((cfg2.win 2).xinj (cfg2.grid.coords t) y 0).val = (y 0).val := rfl
      rw [hyy] at hy0
      blk_simp [e0, e1, e2] at hb hi hf'
      refine ⟨by omega, ?_, by omega⟩
      funext a
      apply Fin.ext
      fin_cases a
      · show (y 0).val = b.val - t.val * 1024
        omega
      · exact hi
      · exact hf'
    obtain ⟨h, hy, hle⟩ := hy
    show ((dat2 V c).after 2 t ((cfg2.win 2).xinj (cfg2.grid.coords t) y) : EReal) = _
    rw [after2_2]
    refine (congrArg (out2 V c t) hy).trans ?_
    rw [out2_apply]
    congr 1
    funext d
    exact congrArg (fun b => xin V c b d f) (Fin.ext (by show t.val * 1024 + (b.val - t.val * 1024) = b.val; omega))

end Cert.KernelIdeal.Kit
-- ==== Proof.Host.lean ====
/- The kernel's result at an index over the extended reals, in terms of its arguments. -/
module

public import proofs.«01_k».proof.Proof.ApplyValue

@[expose] public section

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Pointwise

variable (m : (ℓ : Loc nD τ sig) → Buf (Elt Ideal) ℓ)

/-- The three arguments at an index. -/
abbrev argX (c : Dev nD) (b : Fin 32768) (f : Fin 512) (d : Fin 4) : EReal := (W0 m c main_arg0 : S32768x512x4.Idx → EReal) (ix3 b f d)
abbrev argG (c : Dev nD) (f : Fin 512) (k : Fin 10) : EReal := (W0 m c main_arg1 : S512x10.Idx → EReal) (ix2 f k)
abbrev argB (c : Dev nD) (f : Fin 512) (i : Fin 4) : EReal := (W0 m c main_arg2 : S512x4.Idx → EReal) (ix2 f i)

theorem xin1 (c : Dev nD) (b : Fin 32768) (d : Fin 4) (f : Fin 512) : xin (Ve1 m) c b d f = argX m c b f d := by
  have h : W1 m c main_v0 = (transpose S32768x4x512 [0, 2, 1] (W0 m c main_arg0 : S32768x512x4.Idx → EReal) transposes_S32768x512x4_S32768x4x512_0_2_1 : S32768x4x512.Idx → EReal) := by
    unfold W1
    after_results
  show (W1 m c main_v0 : S32768x4x512.Idx → EReal) (ix3 b d f) = _
  rw [h]
  pointwise

theorem xin5 (c : Dev nD) (b : Fin 32768) (d : Fin 4) (f : Fin 512) : xin (Ve5 m) c b d f = argX m c b f d := by
  have h : W5 m c main_v0 = W1 m c main_v0 :=
    (W5_of m c main_v0 (by decide)).trans <| (W4_of m c main_v0 (by decide)).trans <| (W3_of m c main_v0 (by decide)).trans (W2_of m c main_v0 (by decide))
  rw [← xin1]
  exact congrFun h _

/-- The sums over the batch as the first call leaves them, one half in each row of its result. -/
abbrev total (g : Fin 32768 → EReal) : EReal := hsum g 0 + hsum g 1

/-- The parameters the second call finds at a lane. -/
def kpar (c : Dev nD) (f : Fin 512) (k : Fin 28) : EReal :=
  if h : k.val < 4 then total fun b => argX m c b f ⟨k.val, h⟩
  else if h : k.val < 14 then total fun b => argX m c b f (tr ⟨k.val - 4, by omega⟩) * argX m c b f (tc ⟨k.val - 4, by omega⟩)
  else if h : k.val < 24 then argG m c f ⟨k.val - 14, by omega⟩
  else argB m c f ⟨k.val - 24, by omega⟩

theorem v1_0_apply (c : Dev nD) (p : Fin 2) (d : Fin 4) (f : Fin 512) :
    (W2 m c main_v1_0 : S2x8x512.Idx → EReal) (ix3 p ⟨d.val, by omega⟩ f) = hsum (fun b => argX m c b f d) p.val := by
  have h := arr1_apply (Ve1 m) c p d f
  rw [show (fun b => xin (Ve1 m) c b d f) = fun b => argX m c b f d from funext fun b => xin1 m c b d f] at h
  rw [← h]
  exact congrFun (W2_arr m c 1) _
theorem v1_1_apply (c : Dev nD) (p : Fin 2) (d : Fin 10) (f : Fin 512) :
    (W2 m c main_v1_1 : S2x16x512.Idx → EReal) (ix3 p ⟨d.val, by omega⟩ f) = hsum (fun b => argX m c b f (tr d) * argX m c b f (tc d)) p.val := by
  have h := arr2_apply (Ve1 m) c p d f
  rw [show (fun b => xin (Ve1 m) c b (tr d) f * xin (Ve1 m) c b (tc d) f) = fun b => argX m c b f (tr d) * argX m c b f (tc d) from
    funext fun b => congrArg₂ (· * ·) (xin1 m c b (tr d) f) (xin1 m c b (tc d) f)] at h
  rw [← h]
  exact congrFun (W2_arr m c 2) _

/-- The array the second call reads. -/
def params (M1 : S2x8x512.Idx → EReal) (M2 : S2x16x512.Idx → EReal) (G : S512x10.Idx → EReal) (B : S512x4.Idx → EReal) : S32x512.Idx → EReal :=
  concatenate S32x512 0
    [⟨S4x512, addf (F := Ideal) (φ := .f32) (shapeCast S4x512 (extractStridedSlice S1x4x512 ![0, 0, 0] M1 slices_S2x8x512_S1x4x512_0_0_0) shapeCasts_S1x4x512_S4x512)
        (shapeCast S4x512 (extractStridedSlice S1x4x512 ![1, 0, 0] M1 slices_S2x8x512_S1x4x512_1_0_0) shapeCasts_S1x4x512_S4x512)⟩,
      ⟨S10x512, extractStridedSlice S10x512 ![0, 0]
        (addf (F := Ideal) (φ := .f32) (shapeCast S16x512 (extractStridedSlice S1x16x512 ![0, 0, 0] M2 slices_S2x16x512_S1x16x512_0_0_0) shapeCasts_S1x16x512_S16x512)
          (shapeCast S16x512 (extractStridedSlice S1x16x512 ![1, 0, 0] M2 slices_S2x16x512_S1x16x512_1_0_0) shapeCasts_S1x16x512_S16x512)) slices_S16x512_S10x512_0_0⟩,
      ⟨S10x512, transpose S10x512 [1, 0] G transposes_S512x10_S10x512_1_0⟩,
      ⟨S4x512, transpose S4x512 [1, 0] B transposes_S512x4_S4x512_1_0⟩,
      ⟨S4x512, broadcastInDim S4x512 ![] bcast_S_S4x512 (constant (F := Ideal) S_ .f32 0x00000000#32)⟩]
    concatenates_S4x512_S10x512_S10x512_S4x512_S4x512_S32x512_d0

theorem v16_eq (c : Dev nD) : (W3 m c main_v16 : S32x512.Idx → EReal) = params (W2 m c main_v1_0) (W2 m c main_v1_1) (W2 m c main_arg1) (W2 m c main_arg2) := by
  unfold W3
  after_results
  rfl

theorem params_sum (M1 : S2x8x512.Idx → EReal) (M2 : S2x16x512.Idx → EReal) (G : S512x10.Idx → EReal) (B : S512x4.Idx → EReal) (k : Fin 4) (f : Fin 512) :
    params M1 M2 G B (ix2 ⟨k.val, by omega⟩ f) = M1 (ix3 0 ⟨k.val, by omega⟩ f) + M1 (ix3 1 ⟨k.val, by omega⟩ f) := by
  fin_cases k <;> pointwise [params] <;> rfl
theorem params_prod (M1 : S2x8x512.Idx → EReal) (M2 : S2x16x512.Idx → EReal) (G : S512x10.Idx → EReal) (B : S512x4.Idx → EReal) (k : Fin 10) (f : Fin 512) :
    params M1 M2 G B (ix2 ⟨4 + k.val, by omega⟩ f) = M2 (ix3 0 ⟨k.val, by omega⟩ f) + M2 (ix3 1 ⟨k.val, by omega⟩ f) := by
  fin_cases k <;> pointwise [params] <;> rfl
theorem params_gamma (M1 : S2x8x512.Idx → EReal) (M2 : S2x16x512.Idx → EReal) (G : S512x10.Idx → EReal) (B : S512x4.Idx → EReal) (k : Fin 10) (f : Fin 512) :
    params M1 M2 G B (ix2 ⟨14 + k.val, by omega⟩ f) = G (ix2 f k) := by
  fin_cases k <;> pointwise [params] <;> rfl
theorem params_beta (M1 : S2x8x512.Idx → EReal) (M2 : S2x16x512.Idx → EReal) (G : S512x10.Idx → EReal) (B : S512x4.Idx → EReal) (k : Fin 4) (f : Fin 512) :
    params M1 M2 G B (ix2 ⟨24 + k.val, by omega⟩ f) = B (ix2 f k) := by
  fin_cases k <;> pointwise [params] <;> rfl

theorem parAt3 (c : Dev nD) (f : Fin 512) (k : Fin 28) : parAt (Ve3 m) c f k = kpar m c f k := by
  have hG : W2 m c main_arg1 = W0 m c main_arg1 := (W2_of m c main_arg1 (by decide)).trans (W1_of m c main_arg1 (by decide))
  have hB : W2 m c main_arg2 = W0 m c main_arg2 := (W2_of m c main_arg2 (by decide)).trans (W1_of m c main_arg2 (by decide))
  show (W3 m c main_v16 : S32x512.Idx → EReal) (ix2 ⟨k.val, by omega⟩ f) = _
  rw [v16_eq, hG, hB]
  unfold kpar
  by_cases h : k.val < 4
  · rw [dif_pos h]
    exact (params_sum _ _ _ _ ⟨k.val, h⟩ f).trans (congrArg₂ (· + ·) (v1_0_apply m c 0 ⟨k.val, h⟩ f) (v1_0_apply m c 1 ⟨k.val, h⟩ f))
  rw [dif_neg h]
  by_cases h' : k.val < 14
  · rw [dif_pos h', show (⟨k.val, by omega⟩ : Fin 32) = ⟨4 + (⟨k.val - 4, by omega⟩ : Fin 10).val, by simp; omega⟩ from Fin.ext (by simp; omega)]
    exact (params_prod _ _ _ _ ⟨k.val - 4, by omega⟩ f).trans (congrArg₂ (· + ·) (v1_1_apply m c 0 ⟨k.val - 4, by omega⟩ f) (v1_1_apply m c 1 ⟨k.val - 4, by omega⟩ f))
  rw [dif_neg h']
  by_cases h'' : k.val < 24
  · rw [dif_pos h'', show (⟨k.val, by omega⟩ : Fin 32) = ⟨14 + (⟨k.val - 14, by omega⟩ : Fin 10).val, by simp; omega⟩ from Fin.ext (by simp; omega)]
    exact params_gamma _ _ _ _ ⟨k.val - 14, by omega⟩ f
  · rw [dif_neg h'', show (⟨k.val, by omega⟩ : Fin 32) = ⟨24 + (⟨k.val - 24, by omega⟩ : Fin 4).val, by simp; omega⟩ from Fin.ext (by simp; omega)]
    exact params_beta _ _ _ _ ⟨k.val - 24, by omega⟩ f

/-- The coefficients the third call finds at a lane. -/
def kcoef (p : Fin 28 → EReal) (k : Fin 20) : EReal :=
  if h : k.val < 16 then idealArith.rowq p ⟨k.val / 4, by omega⟩ ⟨k.val % 4, by omega⟩ else idealArith.rowb p ⟨k.val - 16, by omega⟩

theorem coefAt5 (c : Dev nD) (f : Fin 512) (k : Fin 20) : coefAt (Ve5 m) c f k = kcoef (kpar m c f) k := by
  have h : W5 m c main_v18 = (extractStridedSlice S20x512 ![0, 0] (W4 m c main_v17 : S24x512.Idx → EReal) slices_S24x512_S20x512_0_0 : S20x512.Idx → EReal) := by
    unfold W5
    after_results
  have h' : (W4 m c main_v17 : S24x512.Idx → EReal) = ((dat1 (Ve3 m) c).arrAt 1 cfg1.N : S24x512.Idx → EReal) := W4_arr m c 1
  have hs := arr_solve (Ve3 m) c k f
  have hp : parAt (Ve3 m) c f = kpar m c f := funext fun k => parAt3 m c f k
  rw [hp] at hs
  show (W5 m c main_v18 : S20x512.Idx → EReal) (ix2 k f) = _
  rw [h, h']
  refine Eq.trans ?_ hs
  pointwise

/-- The kernel's result: its coefficients at the lane, applied to the row. -/
theorem result_apply (c : Dev nD) (b : Fin 32768) (f : Fin 512) (i : Fin 4) :
    (W7 m c main_v20 : S32768x512x4.Idx → EReal) (ix3 b f i) = applied (kcoef (kpar m c f)) (argX m c b f) i := by
  have h : W7 m c main_v20 = (transpose S32768x512x4 [0, 2, 1] (W6 m c main_v19 : S32768x4x512.Idx → EReal) transposes_S32768x4x512_S32768x512x4_0_2_1 : S32768x512x4.Idx → EReal) := by
    unfold W7
    after_results
  have h' : (W6 m c main_v19 : S32768x4x512.Idx → EReal) = ((dat2 (Ve5 m) c).arrAt 2 cfg2.N : S32768x4x512.Idx → EReal) := W6_arr m c 2
  have ha := arr_apply (Ve5 m) c b i f
  rw [show coefAt (Ve5 m) c f = kcoef (kpar m c f) from funext fun k => coefAt5 m c f k,
    show (fun d => xin (Ve5 m) c b d f) = argX m c b f from funext fun d => xin5 m c b d f] at ha
  rw [h, h']
  refine Eq.trans ?_ ha
  pointwise

end Cert.KernelIdeal.Kit
-- ==== Proof.RefLane.lean ====
/- The reference's result at an index over the extended reals: the covariances of the lane, the Cholesky factor by columns, its
   inverse by forward substitution, and the two matrix products. -/
module

public import proofs.«01_k».proof.Proof.SolvePieces
public import proofs.«01_k».proof.Proof.SolveValue
public import proofs.«01_k».proof.Proof.Gen.ReferenceIdeal.Read
public import Idealize.ShloMosaic.Lib.Pointwise
public import Idealize.ShloMosaic.Lib.IdealHost

@[expose] public section

set_option maxRecDepth 16384

noncomputable section

namespace Cert.ReferenceIdeal.Lane

open Cert.ReferenceIdeal Cert.ReferenceIdeal.Gen Cert.ReferenceIdeal.Read
open Idealize.ShloMosaic Idealize.ShloMosaic.TcCoe Idealize.ShloMosaic.Pointwise
open Cert.KernelIdeal.Kit (Arith tr tc)

/-! The factor's columns, with the divisions as the reference has them, of the ten covariances `c`. -/
section
variable {α : Type} (A : Arith α) (c : Fin 10 → α)
def d0 : α := A.sqrt (c 0)
def e10 : α := A.div (c 1) (d0 A c)
def e20 : α := A.div (c 3) (d0 A c)
def e30 : α := A.div (c 6) (d0 A c)
def s1 : α := A.sub (c 2) (A.mul (e10 A c) (e10 A c))
def d1 : α := A.sqrt (s1 A c)
def e21 : α := A.div (A.sub (c 4) (A.mul (e20 A c) (e10 A c))) (d1 A c)
def e31 : α := A.div (A.sub (c 7) (A.mul (e30 A c) (e10 A c))) (d1 A c)
def s2 : α := A.sub (A.sub (c 5) (A.mul (e20 A c) (e20 A c))) (A.mul (e21 A c) (e21 A c))
def d2 : α := A.sqrt (s2 A c)
def e32 : α := A.div (A.sub (A.sub (c 8) (A.mul (e30 A c) (e20 A c))) (A.mul (e31 A c) (e21 A c))) (d2 A c)
def s3 : α := A.sub (A.sub (A.sub (c 9) (A.mul (e30 A c) (e30 A c))) (A.mul (e31 A c) (e31 A c))) (A.mul (e32 A c) (e32 A c))
def d3 : α := A.sqrt (s3 A c)
/-! Its inverse. -/
def z : α := A.lit 0x00000000#32
def u00 : α := A.div (A.lit 0x3F800000#32) (d0 A c)
def u10 : α := A.div (A.sub (z A) (A.mul (e10 A c) (u00 A c))) (d1 A c)
def u20 : α := A.div (A.sub (A.sub (z A) (A.mul (e20 A c) (u00 A c))) (A.mul (e21 A c) (u10 A c))) (d2 A c)
def u30 : α := A.div (A.sub (A.sub (A.sub (z A) (A.mul (e30 A c) (u00 A c))) (A.mul (e31 A c) (u10 A c))) (A.mul (e32 A c) (u20 A c))) (d3 A c)
def u11 : α := A.div (A.lit 0x3F800000#32) (d1 A c)
def u21 : α := A.div (A.sub (z A) (A.mul (e21 A c) (u11 A c))) (d2 A c)
def u31 : α := A.div (A.sub (A.sub (z A) (A.mul (e31 A c) (u11 A c))) (A.mul (e32 A c) (u21 A c))) (d3 A c)
def u22 : α := A.div (A.lit 0x3F800000#32) (d2 A c)
def u32 : α := A.div (A.sub (z A) (A.mul (e32 A c) (u22 A c))) (d3 A c)
def u33 : α := A.div (A.lit 0x3F800000#32) (d3 A c)
/-- The inverse as a matrix. -/
def inverse : Fin 4 → Fin 4 → α :=
  ![![u00 A c, z A, z A, z A],
    ![u10 A c, u11 A c, z A, z A],
    ![u20 A c, u21 A c, u22 A c, z A],
    ![u30 A c, u31 A c, u32 A c, u33 A c]]
end

/-- The operations on the lanes' vectors. -/
abbrev hostArith : Arith (FVec Ideal S512 .f32) where
  add := addf
  sub := subf
  mul := mulf
  div := Host.divf
  sqrt := Host.sqrt
  lit b := broadcastInDim S512 ![] bcast_S_S512 (constant (F := Ideal) S_ .f32 b)

variable (x0 : (⟨S32768x512x4, .f32⟩ : BufTy).Contents (Elt Ideal)) (x1 : (⟨S512x10, .f32⟩ : BufTy).Contents (Elt Ideal)) (x2 : (⟨S512x4, .f32⟩ : BufTy).Contents (Elt Ideal))

/-- The ten covariances as the reference slices them. -/
def cols : Fin 10 → FVec Ideal S512 .f32 :=
  ![val_main_v37 x0, val_main_v40 x0, val_main_v49 x0, val_main_v43 x0, val_main_v54 x0, val_main_v64 x0, val_main_v46 x0, val_main_v59 x0, val_main_v71 x0, val_main_v78 x0]

theorem v103_eq : val_main_v103 x0 = u00 hostArith (cols x0) := rfl
theorem v107_eq : val_main_v107 x0 = u10 hostArith (cols x0) := rfl
theorem v113_eq : val_main_v113 x0 = u20 hostArith (cols x0) := rfl
theorem v121_eq : val_main_v121 x0 = u30 hostArith (cols x0) := rfl
theorem v123_eq : val_main_v123 x0 = u11 hostArith (cols x0) := rfl
theorem v127_eq : val_main_v127 x0 = u21 hostArith (cols x0) := rfl
theorem v133_eq : val_main_v133 x0 = u31 hostArith (cols x0) := rfl
theorem v135_eq : val_main_v135 x0 = u22 hostArith (cols x0) := rfl
theorem v139_eq : val_main_v139 x0 = u32 hostArith (cols x0) := rfl
theorem v141_eq : val_main_v141 x0 = u33 hostArith (cols x0) := rfl

/-- The lanes' operations are the lane's own. -/
theorem inverse_lane (P : Fin 10 → FVec Ideal S512 .f32) (i j : Fin 4) (f : Fin 512) :
    inverse hostArith P i j (ix1 f) = inverse Cert.KernelIdeal.Kit.idealArith (fun k => P k (ix1 f)) i j := by
  fin_cases i <;> fin_cases j <;> rfl

/-- An input centred by its mean over the batch, -/
def cent (f : Fin 512) (b : Fin 32768) (d : Fin 4) : EReal :=
  x0 (ix3 b f d) - Ideal.div (∑ b : Fin 32768, x0 (ix3 b f d)) (Ideal.ofBits .f32 0x47000000#32)
/-- a covariance -/
def cov (f : Fin 512) (i j : Fin 4) : EReal :=
  Ideal.div (∑ b : Fin 32768, cent x0 f b i * cent x0 f b j) (Ideal.ofBits .f32 0x47000000#32)
    + Ideal.ofBits .f32 0x3727C5AC#32 * (if i = j then 1 else 0)
/-- and the symmetric matrix. -/
def gsym (g : Fin 10 → EReal) : Fin 4 → Fin 4 → EReal :=
  ![![g 0, g 1, g 3, g 6], ![g 1, g 2, g 4, g 7], ![g 3, g 4, g 5, g 8], ![g 6, g 7, g 8, g 9]]

theorem v5_lane (b : Fin 32768) (f : Fin 512) (d : Fin 4) : val_main_v5 x0 (ix3 b f d) = cent x0 f b d := by
  rw [val_main_v5_apply, val_main_v4_apply, val_main_v3_apply, val_main_v2_apply, val_main_v0_apply, val_main_v1_apply, val_main_cst_apply, val_main_cst_0_apply]
  have h : (FloatOps.ofBits .f32 0x00000000#32 : Ideal .f32) = (0 : EReal) := Ideal.ofBits_zero_f32
  rw [h]
  show x0 (ix3 b f d) - Ideal.div ((0 : EReal) + ∑ k : Fin 32768, x0 _) _ = _
  rw [zero_add]
  unfold cent
  refine congrArg (fun s : EReal => x0 (ix3 b f d) - Ideal.div s (Ideal.ofBits .f32 0x47000000#32)) (Finset.sum_congr rfl fun k _ => congrArg x0 ?_)
  funext a; fin_cases a <;> rfl

theorem v14_lane (i j : Fin 4) : val_main_v14 (F := Ideal) (ix2 i j) = (if i = j then (1 : EReal) else 0) := by
  have h : ∀ i j : Fin 4, IntOp.cmpi .eq (IntOp.addi (BitVec.ofNat 32 i.val) 0#32) (BitVec.ofNat 32 j.val) = if i = j then 1#1 else 0#1 := by decide
  show (((IntOp.cmpi .eq (IntOp.addi (BitVec.ofNat 32 i.val) 0#32) (BitVec.ofNat 32 j.val)).toNat : ℝ) : EReal) = _
  rw [h]
  split <;> simp

theorem v19_lane (f : Fin 512) (i j : Fin 4) : val_main_v19 x0 (ix3 f i j) = cov x0 f i j := by
  rw [val_main_v19_apply, val_main_v8_apply, val_main_v6_apply, val_main_v7_apply, val_main_v18_apply, val_main_v17_apply, val_main_v16_apply, val_main_v15_apply]
  have h : ∀ k : Fin 32768, val_main_v5 x0 (lidx_main_v6 (ix3 f i j) k) * val_main_v5 x0 (ridx_main_v6 (ix3 f i j) k) = cent x0 f k i * cent x0 f k j := by
    intro k
    rw [← v5_lane, ← v5_lane]
    congr 2 <;> · funext a; fin_cases a <;> rfl
  simp only [h]
  have h14 : val_main_v14 (F := Ideal) (idx_main_v17 (idx_main_v18 (ix3 f i j))) = (if i = j then (1 : EReal) else 0) := by
    rw [← v14_lane]
    congr 1
    funext a; fin_cases a <;> rfl
  rw [h14]
  rfl

/-- The ten covariances of a lane. -/
def lcov (f : Fin 512) (k : Fin 10) : EReal := cov x0 f (tr k) (tc k)

theorem cols_lane (k : Fin 10) (f : Fin 512) : cols x0 k (ix1 f) = lcov x0 f k := by
  unfold lcov
  rw [← v19_lane]
  fin_cases k <;> pointwise [cols, val_main_v37, val_main_v36, val_main_v40, val_main_v39, val_main_v49, val_main_v48, val_main_v43, val_main_v42, val_main_v54, val_main_v53, val_main_v64, val_main_v63, val_main_v46, val_main_v45, val_main_v59, val_main_v58, val_main_v71, val_main_v70, val_main_v78, val_main_v77] <;> rfl

/-- The inverse of the factor, at a lane. -/
theorem v166_lane (f : Fin 512) (i j : Fin 4) :
    val_main_v166 x0 (ix3 f i j) = inverse Cert.KernelIdeal.Kit.idealArith (lcov x0 f) i j := by
  have hc : (fun k => cols x0 k (ix1 f)) = lcov x0 f := funext fun k => cols_lane x0 k f
  rw [← hc, ← inverse_lane]
  fin_cases i <;> fin_cases j <;> pointwise [val_main_v166, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165] <;> rfl

theorem v225_lane (f : Fin 512) (i k : Fin 4) :
    val_main_v225 x1 (ix3 f i k) = gsym (fun d => x1 (ix2 f d)) i k := by
  fin_cases i <;> fin_cases k <;> pointwise [val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225] <;> rfl

/-- The whitened input. -/
def white (f : Fin 512) (b : Fin 32768) (k : Fin 4) : EReal :=
  ∑ j : Fin 4, cent x0 f b j * inverse Cert.KernelIdeal.Kit.idealArith (lcov x0 f) k j

theorem v168_lane (b : Fin 32768) (f : Fin 512) (k : Fin 4) : val_main_v168 x0 (ix3 b f k) = white x0 f b k := by
  rw [val_main_v168_apply, val_main_v167_apply]
  unfold white
  refine Finset.sum_congr rfl fun j _ => ?_
  rw [← v5_lane, ← v166_lane]
  congr 2 <;> · funext a; fin_cases a <;> rfl

/-- The reference's result: the symmetric matrix times the whitened input, and the offset. -/
theorem result_lane (b : Fin 32768) (f : Fin 512) (i : Fin 4) :
    val_main_v230 x0 x1 x2 (ix3 b f i) = (∑ k : Fin 4, white x0 f b k * gsym (fun d => x1 (ix2 f d)) i k) + x2 (ix2 f i) := by
  rw [val_main_v230_apply, val_main_v227_apply, val_main_v226_apply, val_main_v229_apply, val_main_v228_apply]
  refine congrArg₂ (fun a b : EReal => a + b) (Finset.sum_congr rfl fun k _ => ?_) ?_
  · rw [← v168_lane, ← v225_lane]
    congr 2 <;> · funext a; fin_cases a <;> rfl
  · congr 1
    funext a; fin_cases a <;> rfl

end Cert.ReferenceIdeal.Lane
-- ==== Proof.Extended.lean ====
/- The factor and its inverse over the extended reals: for the components whose covariances are real numbers, the real ones; the
   components whose variance is infinite drop out. The kernel's and the reference's inverses are the same real matrix. -/
module

public import proofs.«01_k».proof.Proof.Pivots
public import proofs.«01_k».proof.Proof.Host
public import proofs.«01_k».proof.Proof.RefLane

@[expose] public section

noncomputable section

namespace Cert.Whiten

open Idealize.ShloMosaic
open Cert.KernelIdeal.Kit (Arith idealArith)
open Cert.ReferenceIdeal.Lane (d0 d1 d2 d3 e10 e20 e30 e21 e31 e32 s1 s2 s3 u00 u10 u20 u30 u11 u21 u31 u22 u32 u33 z)

/-- One of the two infinities. -/
def Inf (a : EReal) : Prop := a = ⊤ ∨ a = ⊥

theorem Inf.add {a : EReal} (h : Inf a) (b : EReal) : Inf (a + b) := by
  rcases h with rfl | rfl
  · by_cases hb : b = ⊥
    · right; rw [hb, EReal.add_bot]
    · left; exact EReal.top_add_of_ne_bot hb
  · right; exact EReal.bot_add b
theorem Inf.add' {b : EReal} (a : EReal) (h : Inf b) : Inf (a + b) := by
  rw [add_comm]; exact h.add a
theorem Inf.neg {a : EReal} (h : Inf a) : Inf (-a) := by
  rcases h with rfl | rfl
  · right; rfl
  · left; rfl
theorem Inf.sub {a : EReal} (h : Inf a) (b : EReal) : Inf (a - b) := by rw [sub_eq_add_neg]; exact h.add _
theorem Inf.sub' {b : EReal} (a : EReal) (h : Inf b) : Inf (a - b) := by rw [sub_eq_add_neg]; exact h.neg.add' _
theorem Inf.mul_pos {a : EReal} (h : Inf a) {r : ℝ} (hr : 0 < r) : Inf (a * r) := by
  rcases h with rfl | rfl
  · left; exact EReal.top_mul_coe_of_pos hr
  · right; exact EReal.bot_mul_coe_of_pos hr
theorem Inf.mul_self {a : EReal} (h : Inf a) : Inf (a * a) := by
  rcases h with rfl | rfl
  · left; exact EReal.top_mul_top
  · left; exact EReal.bot_mul_bot
theorem Inf.sum {ι : Type} [Fintype ι] (f : ι → EReal) (b : ι) (h : Inf (f b)) : Inf (∑ i, f i) := by
  classical
  rw [← Finset.add_sum_erase _ _ (Finset.mem_univ b)]
  exact h.add _
theorem inf_or_real (a : EReal) : Inf a ∨ ∃ r : ℝ, a = r := by
  induction a with
  | bot => exact .inl (.inr rfl)
  | top => exact .inl (.inl rfl)
  | coe r => exact .inr ⟨r, rfl⟩

theorem div_coe (a : EReal) {r : ℝ} (hr : r ≠ 0) : Ideal.div a r = a * ((1 / r : ℝ) : EReal) := by
  unfold Ideal.div
  rw [if_neg (by exact_mod_cast hr), one_div, EReal.coe_inv]

/-- Dividing by a pivot's root is multiplying by its reciprocal: the root of an infinite pivot is infinite, and over it is zero. -/
theorem div_sqrt (b : Bool) (P : EReal) (p : ℝ) (h : b = true → P = p ∧ 0 < p) (h' : ¬ b = true → Inf P) (s : EReal) :
    Ideal.div s (Ideal.sqrt P) = s * (recip b p : ℝ) := by
  cases b
  · rcases h' (by simp) with rfl | rfl
    · show Ideal.div s ⊤ = _
      simp [Ideal.div, recip]
    · show Ideal.div s ⊥ = _
      simp [Ideal.div, recip]
  · obtain ⟨rfl, hp⟩ := h rfl
    have hs : Ideal.sqrt (p : EReal) = ((√p : ℝ) : EReal) := by
      show (if p < 0 then (⊥ : EReal) else ((√p : ℝ) : EReal)) = _
      rw [if_neg (not_lt.mpr hp.le)]
    rw [hs, div_coe _ (Real.sqrt_pos.mpr hp).ne']
    rfl

/-- A product with a real factor is real if the other factor is, or if the factor is zero. -/
theorem mulr {E : EReal} {e r : ℝ} (h : r ≠ 0 → E = e) : E * (r : EReal) = ((e * r : ℝ) : EReal) := by
  by_cases hr : r = 0
  · subst hr; simp
  · rw [h hr, EReal.coe_mul]

/-- Covariances `c` that are the real `C` between the components `g` keeps, the variances of the others infinite. -/
structure Fits (c : Fin 10 → EReal) (g : Fin 4 → Bool) (C : Fin 10 → ℝ) : Prop where
  real : ∀ k, g (row k) = true → g (col k) = true → c k = C k
  inf : ∀ k, row k = col k → ¬ g (row k) = true → Inf (c k)
  pos0 : g 0 = true → 0 < C 0
  pos1 : g 1 = true → 0 < P1 g C
  pos2 : g 2 = true → 0 < P2 g C
  pos3 : g 3 = true → 0 < P3 g C

namespace Fits
variable {c : Fin 10 → EReal} {g : Fin 4 → Bool} {C : Fin 10 → ℝ} (F : Fits c g C)
include F

/-- A reciprocal that is not zero is a kept component's. -/
theorem keep0 (h : R0 g C ≠ 0) : g 0 = true := by by_contra hn; exact h (recip_of_not hn _)
theorem keep1 (h : R1 g C ≠ 0) : g 1 = true := by by_contra hn; exact h (recip_of_not hn _)
theorem keep2 (h : R2 g C ≠ 0) : g 2 = true := by by_contra hn; exact h (recip_of_not hn _)
theorem keep3 (h : R3 g C ≠ 0) : g 3 = true := by by_contra hn; exact h (recip_of_not hn _)

theorem div0 (s : EReal) : Ideal.div s (Ideal.sqrt (c 0)) = s * (R0 g C : ℝ) := by
  have hg : g 0 = true → c 0 = ((C 0) : ℝ) ∧ 0 < (C 0) := fun h => ⟨F.real 0 h h, F.pos0 h⟩
  have hb : ¬ g 0 = true → Inf (c 0) := fun h => by
    have h' : Inf (c 0) := F.inf 0 (by decide) h
    exact h'
  unfold R0
  exact div_sqrt (g 0) (c 0) (C 0) hg hb s
theorem i0 : idealArith.i0 c = (R0 g C : ℝ) := by
  show Ideal.div (Ideal.ofBits .f32 0x3F800000#32) (Ideal.sqrt (c 0)) = _
  rw [F.div0, Ideal.ofBits_one_f32, one_mul]
theorem l10 (h : g 1 = true) : idealArith.l10 c = (L10 g C : ℝ) := by
  show c 1 * idealArith.i0 c = _
  rw [F.i0]
  exact mulr fun h0 => F.real 1 h (F.keep0 h0)
theorem l20 (h : g 2 = true) : idealArith.l20 c = (L20 g C : ℝ) := by
  show c 3 * idealArith.i0 c = _
  rw [F.i0]
  exact mulr fun h0 => F.real 3 h (F.keep0 h0)
theorem l30 (h : g 3 = true) : idealArith.l30 c = (L30 g C : ℝ) := by
  show c 6 * idealArith.i0 c = _
  rw [F.i0]
  exact mulr fun h0 => F.real 6 h (F.keep0 h0)

theorem p1 (h : g 1 = true) : idealArith.p1 c = (P1 g C : ℝ) := by
  show c 2 - idealArith.l10 c * idealArith.l10 c = _
  rw [F.l10 h, F.real 2 h h, P1]
  norm_cast
theorem div1 (s : EReal) : Ideal.div s (Ideal.sqrt (idealArith.p1 c)) = s * (R1 g C : ℝ) := by
  have hg : g 1 = true → idealArith.p1 c = ((P1 g C) : ℝ) ∧ 0 < (P1 g C) := fun h => ⟨F.p1 h, F.pos1 h⟩
  have hb : ¬ g 1 = true → Inf (idealArith.p1 c) := fun h => by
    have h' : Inf (c 2) := F.inf 2 (by decide) h
    exact (h'.sub _)
  unfold R1
  exact div_sqrt (g 1) (idealArith.p1 c) (P1 g C) hg hb s
theorem i1 : idealArith.i1 c = (R1 g C : ℝ) := by
  show Ideal.div (Ideal.ofBits .f32 0x3F800000#32) (Ideal.sqrt (idealArith.p1 c)) = _
  rw [F.div1, Ideal.ofBits_one_f32, one_mul]
theorem l21 (h : g 2 = true) : idealArith.l21 c = (L21 g C : ℝ) := by
  show (c 4 - idealArith.l20 c * idealArith.l10 c) * idealArith.i1 c = _
  rw [F.i1]
  refine mulr fun h1 => ?_
  rw [F.real 4 h (F.keep1 h1), F.l20 h, F.l10 (F.keep1 h1)]
  norm_cast
theorem l31 (h : g 3 = true) : idealArith.l31 c = (L31 g C : ℝ) := by
  show (c 7 - idealArith.l30 c * idealArith.l10 c) * idealArith.i1 c = _
  rw [F.i1]
  refine mulr fun h1 => ?_
  rw [F.real 7 h (F.keep1 h1), F.l30 h, F.l10 (F.keep1 h1)]
  norm_cast

theorem p2 (h : g 2 = true) : idealArith.p2 c = (P2 g C : ℝ) := by
  show c 5 - idealArith.l20 c * idealArith.l20 c - idealArith.l21 c * idealArith.l21 c = _
  rw [F.l20 h, F.l21 h, F.real 5 h h, P2]
  norm_cast
theorem div2 (s : EReal) : Ideal.div s (Ideal.sqrt (idealArith.p2 c)) = s * (R2 g C : ℝ) := by
  have hg : g 2 = true → idealArith.p2 c = ((P2 g C) : ℝ) ∧ 0 < (P2 g C) := fun h => ⟨F.p2 h, F.pos2 h⟩
  have hb : ¬ g 2 = true → Inf (idealArith.p2 c) := fun h => by
    have h' : Inf (c 5) := F.inf 5 (by decide) h
    exact ((h'.sub _).sub _)
  unfold R2
  exact div_sqrt (g 2) (idealArith.p2 c) (P2 g C) hg hb s
theorem i2 : idealArith.i2 c = (R2 g C : ℝ) := by
  show Ideal.div (Ideal.ofBits .f32 0x3F800000#32) (Ideal.sqrt (idealArith.p2 c)) = _
  rw [F.div2, Ideal.ofBits_one_f32, one_mul]
theorem l32 (h : g 3 = true) : idealArith.l32 c = (L32 g C : ℝ) := by
  show (c 8 - idealArith.l30 c * idealArith.l20 c - idealArith.l31 c * idealArith.l21 c) * idealArith.i2 c = _
  rw [F.i2]
  refine mulr fun h2 => ?_
  rw [F.real 8 h (F.keep2 h2), F.l30 h, F.l31 h, F.l20 (F.keep2 h2), F.l21 (F.keep2 h2)]
  norm_cast
theorem p3 (h : g 3 = true) : idealArith.p3 c = (P3 g C : ℝ) := by
  show c 9 - idealArith.l30 c * idealArith.l30 c - idealArith.l31 c * idealArith.l31 c - idealArith.l32 c * idealArith.l32 c = _
  rw [F.l30 h, F.l31 h, F.l32 h, F.real 9 h h, P3]
  norm_cast
theorem div3 (s : EReal) : Ideal.div s (Ideal.sqrt (idealArith.p3 c)) = s * (R3 g C : ℝ) := by
  have hg : g 3 = true → idealArith.p3 c = ((P3 g C) : ℝ) ∧ 0 < (P3 g C) := fun h => ⟨F.p3 h, F.pos3 h⟩
  have hb : ¬ g 3 = true → Inf (idealArith.p3 c) := fun h => by
    have h' : Inf (c 9) := F.inf 9 (by decide) h
    exact (((h'.sub _).sub _).sub _)
  unfold R3
  exact div_sqrt (g 3) (idealArith.p3 c) (P3 g C) hg hb s
theorem i3 : idealArith.i3 c = (R3 g C : ℝ) := by
  show Ideal.div (Ideal.ofBits .f32 0x3F800000#32) (Ideal.sqrt (idealArith.p3 c)) = _
  rw [F.div3, Ideal.ofBits_one_f32, one_mul]

/-! The inverse, as the kernel computes it: real throughout. -/
theorem neg_eq (a : EReal) : idealArith.neg a = -a := by
  show Ideal.ofBits .f32 0x00000000#32 - a = _
  rw [Ideal.ofBits_zero_f32, zero_sub]
theorem m10 : idealArith.m10 c = (M10 g C : ℝ) := by
  show idealArith.neg (idealArith.l10 c * idealArith.i0 c) * idealArith.i1 c = _
  rw [F.i1, F.neg_eq, F.i0]
  refine mulr fun h => ?_
  rw [F.l10 (F.keep1 h)]
  norm_cast
theorem m20 : idealArith.m20 c = (M20 g C : ℝ) := by
  show idealArith.neg (idealArith.l20 c * idealArith.i0 c + idealArith.l21 c * idealArith.m10 c) * idealArith.i2 c = _
  rw [F.i2, F.neg_eq, F.i0, F.m10]
  refine mulr fun h => ?_
  rw [F.l20 (F.keep2 h), F.l21 (F.keep2 h)]
  norm_cast
theorem m21 : idealArith.m21 c = (M21 g C : ℝ) := by
  show idealArith.neg (idealArith.l21 c * idealArith.i1 c) * idealArith.i2 c = _
  rw [F.i2, F.neg_eq, F.i1]
  refine mulr fun h => ?_
  rw [F.l21 (F.keep2 h)]
  norm_cast
theorem m30 : idealArith.m30 c = (M30 g C : ℝ) := by
  show idealArith.neg (idealArith.l30 c * idealArith.i0 c + idealArith.l31 c * idealArith.m10 c + idealArith.l32 c * idealArith.m20 c) * idealArith.i3 c = _
  rw [F.i3, F.neg_eq, F.i0, F.m10, F.m20]
  refine mulr fun h => ?_
  rw [F.l30 (F.keep3 h), F.l31 (F.keep3 h), F.l32 (F.keep3 h)]
  norm_cast
theorem m31 : idealArith.m31 c = (M31 g C : ℝ) := by
  show idealArith.neg (idealArith.l31 c * idealArith.i1 c + idealArith.l32 c * idealArith.m21 c) * idealArith.i3 c = _
  rw [F.i3, F.neg_eq, F.i1, F.m21]
  refine mulr fun h => ?_
  rw [F.l31 (F.keep3 h), F.l32 (F.keep3 h)]
  norm_cast
theorem m32 : idealArith.m32 c = (M32 g C : ℝ) := by
  show idealArith.neg (idealArith.l32 c * idealArith.i2 c) * idealArith.i3 c = _
  rw [F.i3, F.neg_eq, F.i2]
  refine mulr fun h => ?_
  rw [F.l32 (F.keep3 h)]
  norm_cast

/-! The reference's factor is the kernel's: it divides where the kernel multiplies by a reciprocal. -/
theorem e10 : e10 idealArith c = idealArith.l10 c := by
  show Ideal.div (c 1) (Ideal.sqrt (c 0)) = c 1 * idealArith.i0 c
  rw [F.div0, F.i0]
theorem e20 : e20 idealArith c = idealArith.l20 c := by
  show Ideal.div (c 3) (Ideal.sqrt (c 0)) = c 3 * idealArith.i0 c
  rw [F.div0, F.i0]
theorem e30 : e30 idealArith c = idealArith.l30 c := by
  show Ideal.div (c 6) (Ideal.sqrt (c 0)) = c 6 * idealArith.i0 c
  rw [F.div0, F.i0]
theorem d1_eq : d1 idealArith c = Ideal.sqrt (idealArith.p1 c) := by
  unfold d1 s1 Arith.p1
  rw [F.e10]
theorem e21 : e21 idealArith c = idealArith.l21 c := by
  unfold Cert.ReferenceIdeal.Lane.e21 Arith.l21
  rw [F.d1_eq, F.i1, F.e20, F.e10]
  exact F.div1 _
theorem e31 : e31 idealArith c = idealArith.l31 c := by
  unfold Cert.ReferenceIdeal.Lane.e31 Arith.l31
  rw [F.d1_eq, F.i1, F.e30, F.e10]
  exact F.div1 _
theorem d2_eq : d2 idealArith c = Ideal.sqrt (idealArith.p2 c) := by
  unfold d2 s2 Arith.p2
  rw [F.e20, F.e21]
theorem e32 : e32 idealArith c = idealArith.l32 c := by
  unfold Cert.ReferenceIdeal.Lane.e32 Arith.l32
  rw [F.d2_eq, F.i2, F.e30, F.e20, F.e31, F.e21]
  exact F.div2 _
theorem d3_eq : d3 idealArith c = Ideal.sqrt (idealArith.p3 c) := by
  unfold d3 s3 Arith.p3
  rw [F.e30, F.e31, F.e32]

theorem z_eq : z idealArith = 0 := Ideal.ofBits_zero_f32
theorem u00 : u00 idealArith c = (R0 g C : ℝ) := F.i0
theorem u11 : u11 idealArith c = (R1 g C : ℝ) := by
  unfold Cert.ReferenceIdeal.Lane.u11; rw [F.d1_eq]; exact F.i1
theorem u22 : u22 idealArith c = (R2 g C : ℝ) := by
  unfold Cert.ReferenceIdeal.Lane.u22; rw [F.d2_eq]; exact F.i2
theorem u33 : u33 idealArith c = (R3 g C : ℝ) := by
  unfold Cert.ReferenceIdeal.Lane.u33; rw [F.d3_eq]; exact F.i3
theorem u10 : u10 idealArith c = (M10 g C : ℝ) := by
  unfold Cert.ReferenceIdeal.Lane.u10
  rw [F.d1_eq, F.z_eq, F.e10, F.u00]
  refine (F.div1 _).trans (mulr fun h => ?_)
  show (0 : EReal) - idealArith.l10 c * (R0 g C : ℝ) = _
  rw [F.l10 (F.keep1 h), zero_sub]
  norm_cast
theorem u20 : u20 idealArith c = (M20 g C : ℝ) := by
  unfold Cert.ReferenceIdeal.Lane.u20
  rw [F.d2_eq, F.z_eq, F.e20, F.u00, F.e21, F.u10]
  refine (F.div2 _).trans (mulr fun h => ?_)
  show (0 : EReal) - idealArith.l20 c * (R0 g C : ℝ) - idealArith.l21 c * (M10 g C : ℝ) = _
  rw [F.l20 (F.keep2 h), F.l21 (F.keep2 h), show -(L20 g C * R0 g C + L21 g C * M10 g C) = 0 - L20 g C * R0 g C - L21 g C * M10 g C by ring]
  norm_cast
theorem u21 : u21 idealArith c = (M21 g C : ℝ) := by
  unfold Cert.ReferenceIdeal.Lane.u21
  rw [F.d2_eq, F.z_eq, F.e21, F.u11]
  refine (F.div2 _).trans (mulr fun h => ?_)
  show (0 : EReal) - idealArith.l21 c * (R1 g C : ℝ) = _
  rw [F.l21 (F.keep2 h), zero_sub]
  norm_cast
theorem u30 : u30 idealArith c = (M30 g C : ℝ) := by
  unfold Cert.ReferenceIdeal.Lane.u30
  rw [F.d3_eq, F.z_eq, F.e30, F.u00, F.e31, F.u10, F.e32, F.u20]
  refine (F.div3 _).trans (mulr fun h => ?_)
  show (0 : EReal) - idealArith.l30 c * (R0 g C : ℝ) - idealArith.l31 c * (M10 g C : ℝ) - idealArith.l32 c * (M20 g C : ℝ) = _
  rw [F.l30 (F.keep3 h), F.l31 (F.keep3 h), F.l32 (F.keep3 h),
    show -(L30 g C * R0 g C + L31 g C * M10 g C + L32 g C * M20 g C) = 0 - L30 g C * R0 g C - L31 g C * M10 g C - L32 g C * M20 g C by ring]
  norm_cast
theorem u31 : u31 idealArith c = (M31 g C : ℝ) := by
  unfold Cert.ReferenceIdeal.Lane.u31
  rw [F.d3_eq, F.z_eq, F.e31, F.u11, F.e32, F.u21]
  refine (F.div3 _).trans (mulr fun h => ?_)
  show (0 : EReal) - idealArith.l31 c * (R1 g C : ℝ) - idealArith.l32 c * (M21 g C : ℝ) = _
  rw [F.l31 (F.keep3 h), F.l32 (F.keep3 h), show -(L31 g C * R1 g C + L32 g C * M21 g C) = 0 - L31 g C * R1 g C - L32 g C * M21 g C by ring]
  norm_cast
theorem u32 : u32 idealArith c = (M32 g C : ℝ) := by
  unfold Cert.ReferenceIdeal.Lane.u32
  rw [F.d3_eq, F.z_eq, F.e32, F.u22]
  refine (F.div3 _).trans (mulr fun h => ?_)
  show (0 : EReal) - idealArith.l32 c * (R2 g C : ℝ) = _
  rw [F.l32 (F.keep3 h), zero_sub]
  norm_cast

end Fits
end Cert.Whiten
-- ==== Proof.Lane.lean ====
/- One lane: the kernel's and the reference's results agree, whatever the inputs, when the ten entries of the symmetric matrix are
   real numbers. A component with an infinite entry drops out on both sides. -/
module

public import proofs.«01_k».proof.Proof.Extended

@[expose] public section

noncomputable section

namespace Cert.Whiten

open Idealize.ShloMosaic
open Cert.KernelIdeal.Kit (Arith idealArith kcoef applied total hsum bsum ext)
open Cert.ReferenceIdeal.Lane (inverse gsym z)

/-! The literals. -/
theorem lit_len : Ideal.ofBits .f32 0x47000000#32 = ((32768 : ℝ) : EReal) := by
  simp [Ideal.ofBits, Ideal.ieee, -EReal.coe_mul]; norm_num
theorem lit_inv : Ideal.ofBits .f32 0x38000000#32 = ((1 / 32768 : ℝ) : EReal) := by
  simp [Ideal.ofBits, Ideal.ieee, -EReal.coe_mul]; norm_num
theorem lit_eps : ∃ ε : ℝ, 0 < ε ∧ Ideal.ofBits .f32 0x3727C5AC#32 = (ε : EReal) := by
  refine ⟨2 ^ (-17 : ℤ) * (1 + 2606508 / 2 ^ 23), by positivity, ?_⟩
  simp [Ideal.ofBits, Ideal.ieee, -EReal.coe_mul]; norm_num
/-- The number added to the variances. -/
def eps : ℝ := lit_eps.choose
theorem eps_pos : 0 < eps := lit_eps.choose_spec.1
theorem eps_lit : Ideal.ofBits .f32 0x3727C5AC#32 = (eps : EReal) := lit_eps.choose_spec.2

theorem sum_coe {ι : Type} [Fintype ι] (f : ι → ℝ) : ∑ i, ((f i : ℝ) : EReal) = ((∑ i, f i : ℝ) : EReal) := by
  classical
  have : ∀ s : Finset ι, ∑ i ∈ s, ((f i : ℝ) : EReal) = ((∑ i ∈ s, f i : ℝ) : EReal) := by
    intro s
    induction s using Finset.induction_on with
    | empty => simp
    | insert a s ha ih => rw [Finset.sum_insert ha, Finset.sum_insert ha, ih, EReal.coe_add]
  exact this _

/-- A sum in blocks. -/
theorem sum_blocks (h : ℕ → EReal) (k n : ℕ) : ∑ s ∈ Finset.range n, ∑ q ∈ Finset.range k, h (s * k + q) = ∑ t ∈ Finset.range (n * k), h t := by
  induction n with
  | zero => simp
  | succ n ih => rw [Finset.sum_range_succ, ih, Nat.succ_mul, Finset.sum_range_add]
/-- The two halves are the whole batch. -/
theorem total_eq (x : Fin 32768 → EReal) : total x = ∑ b, x b := by
  have hs : ∀ p, hsum x p = ∑ s ∈ Finset.range (16 * 1024), ext x (p * (16 * 1024) + s) := by
    intro p
    rw [← sum_blocks (fun t => ext x (p * (16 * 1024) + t)) 1024 16]
    unfold hsum bsum
    refine Finset.sum_congr rfl fun s _ => Finset.sum_congr rfl fun q _ => congrArg (ext x) ?_
    ring
  show hsum x 0 + hsum x 1 = _
  have h2 := sum_blocks (ext x) (16 * 1024) 2
  rw [Finset.sum_range_succ, Finset.sum_range_succ, Finset.sum_range_zero, zero_add] at h2
  rw [hs, hs, h2, Finset.sum_range]
  refine Finset.sum_congr rfl fun b _ => ?_
  unfold ext
  rw [dif_pos b.isLt]

variable (x : Fin 32768 → Fin 4 → EReal)

/-- An input centred, and a covariance, as the reference has them. -/
def cent (b : Fin 32768) (d : Fin 4) : EReal := x b d - Ideal.div (∑ b, x b d) (Ideal.ofBits .f32 0x47000000#32)
def rcov (k : Fin 10) : EReal :=
  Ideal.div (∑ b, cent x b (row k) * cent x b (col k)) (Ideal.ofBits .f32 0x47000000#32)
    + Ideal.ofBits .f32 0x3727C5AC#32 * (if row k = col k then 1 else 0)
/-- A covariance as the kernel has it. -/
def kcov (k : Fin 10) : EReal :=
  (∑ b, x b (row k) * x b (col k)) * Ideal.ofBits .f32 0x38000000#32
    - (∑ b, x b (row k)) * Ideal.ofBits .f32 0x38000000#32 * ((∑ b, x b (col k)) * Ideal.ofBits .f32 0x38000000#32)
    + (if row k = col k then Ideal.ofBits .f32 0x3727C5AC#32 else 0)

/-- The components kept are those with no infinite entry. -/
def keep (d : Fin 4) : Bool := @decide (∀ b, ¬ Inf (x b d)) (Classical.propDecidable _)
theorem keep_iff (d : Fin 4) : keep x d = true ↔ ∀ b, ¬ Inf (x b d) := @decide_eq_true_iff _ (Classical.propDecidable _)
/-- The real inputs, their means and the centred ones. -/
def X (b : Fin 32768) (d : Fin 4) : ℝ := (x b d).toReal
def mean (d : Fin 4) : ℝ := (∑ b, X x b d) * (1 / 32768)
def Y (b : Fin 32768) (d : Fin 4) : ℝ := X x b d - mean x d
/-- The real covariances. -/
def C (k : Fin 10) : ℝ := (∑ b, Y x b (row k) * Y x b (col k)) * (1 / 32768) + (if row k = col k then eps else 0)

theorem x_real {d : Fin 4} (h : keep x d = true) (b : Fin 32768) : x b d = (X x b d : ℝ) := by
  have hb : ¬ Inf (x b d) := (keep_iff x d).mp h b
  exact (EReal.coe_toReal (fun e => hb (.inl e)) (fun e => hb (.inr e))).symm
theorem x_inf {d : Fin 4} (h : ¬ keep x d = true) : ∃ b, Inf (x b d) := by
  by_contra hn
  exact h ((keep_iff x d).mpr fun b hb => hn ⟨b, hb⟩)
theorem sum_real {d : Fin 4} (h : keep x d = true) : ∑ b, x b d = ((∑ b, X x b d : ℝ) : EReal) := by
  rw [← sum_coe]
  exact Finset.sum_congr rfl fun b _ => x_real x h b
theorem cent_real {d : Fin 4} (h : keep x d = true) (b : Fin 32768) : cent x b d = (Y x b d : ℝ) := by
  unfold cent
  rw [lit_len, div_coe _ (by norm_num), sum_real x h, x_real x h, Y, mean]
  norm_cast
theorem cent_inf {d : Fin 4} (h : ¬ keep x d = true) (b : Fin 32768) : Inf (cent x b d) := by
  obtain ⟨b', hb⟩ := x_inf x h
  unfold cent
  rw [lit_len, div_coe _ (by norm_num)]
  exact Inf.sub' _ ((Inf.sum (fun b => x b d) b' hb).mul_pos (by norm_num))

/-- The mean of the products less the product of the means is the mean of the centred products. -/
theorem cov_real (i j : Fin 4) : (∑ b, X x b i * X x b j) * (1 / 32768) - (∑ b, X x b i) * (1 / 32768) * ((∑ b, X x b j) * (1 / 32768))
    = (∑ b, Y x b i * Y x b j) * (1 / 32768) := by
  have h : ∑ b, Y x b i * Y x b j = ∑ b, X x b i * X x b j - mean x i * (∑ b, X x b j) - mean x j * (∑ b, X x b i) + 32768 * (mean x i * mean x j) := by
    have e : ∀ b, Y x b i * Y x b j = X x b i * X x b j - mean x i * X x b j - mean x j * X x b i + mean x i * mean x j := fun b => by unfold Y; ring
    simp only [e]
    rw [Finset.sum_add_distrib, Finset.sum_sub_distrib, Finset.sum_sub_distrib, ← Finset.mul_sum, ← Finset.mul_sum, Finset.sum_const, Finset.card_univ, Fintype.card_fin, nsmul_eq_mul]
    norm_num
  rw [h]
  unfold mean
  ring

/-- The quadratic form of the covariances is a mean of squares, and the number added times the length. -/
theorem quad_eq (u : Fin 4 → ℝ) : quad (C x) u
    = (∑ b, (u 0 * Y x b 0 + u 1 * Y x b 1 + u 2 * Y x b 2 + u 3 * Y x b 3) ^ 2) * (1 / 32768) + eps * (u 0 ^ 2 + u 1 ^ 2 + u 2 ^ 2 + u 3 ^ 2) := by
  have e : ∀ b, (u 0 * Y x b 0 + u 1 * Y x b 1 + u 2 * Y x b 2 + u 3 * Y x b 3) ^ 2
      = u 0 ^ 2 * (Y x b 0 * Y x b 0) + 2 * u 0 * u 1 * (Y x b 1 * Y x b 0) + u 1 ^ 2 * (Y x b 1 * Y x b 1) + 2 * u 0 * u 2 * (Y x b 2 * Y x b 0)
        + 2 * u 1 * u 2 * (Y x b 2 * Y x b 1) + u 2 ^ 2 * (Y x b 2 * Y x b 2) + 2 * u 0 * u 3 * (Y x b 3 * Y x b 0) + 2 * u 1 * u 3 * (Y x b 3 * Y x b 1)
        + 2 * u 2 * u 3 * (Y x b 3 * Y x b 2) + u 3 ^ 2 * (Y x b 3 * Y x b 3) := fun b => by ring
  simp only [e, Finset.sum_add_distrib, ← Finset.mul_sum]
  have c0 : C x 0 = (∑ b, Y x b 0 * Y x b 0) * (1 / 32768) + eps := rfl
  have c1 : C x 1 = (∑ b, Y x b 1 * Y x b 0) * (1 / 32768) := add_zero _
  have c2 : C x 2 = (∑ b, Y x b 1 * Y x b 1) * (1 / 32768) + eps := rfl
  have c3 : C x 3 = (∑ b, Y x b 2 * Y x b 0) * (1 / 32768) := add_zero _
  have c4 : C x 4 = (∑ b, Y x b 2 * Y x b 1) * (1 / 32768) := add_zero _
  have c5 : C x 5 = (∑ b, Y x b 2 * Y x b 2) * (1 / 32768) + eps := rfl
  have c6 : C x 6 = (∑ b, Y x b 3 * Y x b 0) * (1 / 32768) := add_zero _
  have c7 : C x 7 = (∑ b, Y x b 3 * Y x b 1) * (1 / 32768) := add_zero _
  have c8 : C x 8 = (∑ b, Y x b 3 * Y x b 2) * (1 / 32768) := add_zero _
  have c9 : C x 9 = (∑ b, Y x b 3 * Y x b 3) * (1 / 32768) + eps := rfl
  unfold quad
  rw [c0, c1, c2, c3, c4, c5, c6, c7, c8, c9]
  ring
theorem quad_ge (u : Fin 4 → ℝ) : eps * (u 0 ^ 2 + u 1 ^ 2 + u 2 ^ 2 + u 3 ^ 2) ≤ quad (C x) u := by
  rw [quad_eq]
  have : 0 ≤ (∑ b, (u 0 * Y x b 0 + u 1 * Y x b 1 + u 2 * Y x b 2 + u 3 * Y x b 3) ^ 2) * (1 / 32768 : ℝ) :=
    mul_nonneg (Finset.sum_nonneg fun b _ => sq_nonneg _) (by norm_num)
  linarith

/-- Covariances real where both components are kept, infinite on the diagonal elsewhere, fit. -/
theorem fits_of {c : Fin 10 → EReal} (hr : ∀ k, keep x (row k) = true → keep x (col k) = true → c k = (C x k : ℝ))
    (hi : ∀ k, row k = col k → ¬ keep x (row k) = true → Inf (c k)) : Fits c (keep x) (C x) where
  real := hr
  inf := hi
  pos0 _ := Whiten.pos0 eps_pos (quad_ge x)
  pos1 _ := Whiten.pos1 _ eps_pos (quad_ge x)
  pos2 _ := Whiten.pos2 _ eps_pos (quad_ge x)
  pos3 _ := Whiten.pos3 _ eps_pos (quad_ge x)

theorem fits_kernel : Fits (kcov x) (keep x) (C x) := by
  refine fits_of x (fun k hi hj => ?_) (fun k e h => ?_)
  · unfold kcov C
    rw [lit_inv, sum_real x hi, sum_real x hj, eps_lit,
      show ∑ b, x b (row k) * x b (col k) = ((∑ b, X x b (row k) * X x b (col k) : ℝ) : EReal) by
        rw [← sum_coe]
        exact Finset.sum_congr rfl fun b _ => by rw [x_real x hi, x_real x hj, EReal.coe_mul],
      ← cov_real x (row k) (col k)]
    split <;> norm_cast
  · obtain ⟨b, hb⟩ := x_inf x h
    unfold kcov
    rw [lit_inv, ← e]
    exact (((Inf.sum (fun b => x b (row k) * x b (row k)) b hb.mul_self).mul_pos (by norm_num)).sub _).add _

theorem fits_reference : Fits (rcov x) (keep x) (C x) := by
  refine fits_of x (fun k hi hj => ?_) (fun k e h => ?_)
  · unfold rcov C
    rw [lit_len, div_coe _ (by norm_num), eps_lit,
      show ∑ b, cent x b (row k) * cent x b (col k) = ((∑ b, Y x b (row k) * Y x b (col k) : ℝ) : EReal) by
        rw [← sum_coe]
        exact Finset.sum_congr rfl fun b _ => by rw [cent_real x hi, cent_real x hj, EReal.coe_mul]]
    split
    · rw [mul_one]; norm_cast
    · rw [mul_zero, add_zero, add_zero]; norm_cast
  · unfold rcov
    rw [lit_len, div_coe _ (by norm_num), ← e]
    exact ((Inf.sum (fun b => cent x b (row k) * cent x b (row k)) 0 (cent_inf x h 0).mul_self).mul_pos (by norm_num)).add _

end Cert.Whiten
-- ==== Proof.Agree.lean ====
/- One lane's two results are equal. -/
module

public import proofs.«01_k».proof.Proof.Lane

@[expose] public section

noncomputable section

namespace Cert.Whiten

open Idealize.ShloMosaic
open Cert.KernelIdeal.Kit (Arith idealArith kcoef applied)
open Cert.ReferenceIdeal.Lane (inverse gsym z)

/-- The real inverse as a matrix. -/
def inv (g : Fin 4 → Bool) (C : Fin 10 → ℝ) : Fin 4 → Fin 4 → ℝ :=
  ![![R0 g C, 0, 0, 0],
    ![M10 g C, R1 g C, 0, 0],
    ![M20 g C, M21 g C, R2 g C, 0],
    ![M30 g C, M31 g C, M32 g C, R3 g C]]

/-- A component left out has a zero column in it. -/
theorem inv_col (g : Fin 4 → Bool) (C : Fin 10 → ℝ) (k j : Fin 4) (h : ¬ g j = true) : inv g C k j = 0 := by
  fin_cases j
  · obtain ⟨a, b, c, d⟩ := col0 g C h
    fin_cases k <;> simp [inv, a, b, c, d]
  · obtain ⟨a, b, c⟩ := col1 g C h
    fin_cases k <;> simp [inv, a, b, c]
  · obtain ⟨a, b⟩ := col2 g C h
    fin_cases k <;> simp [inv, a, b]
  · have a := col3 g C h
    fin_cases k <;> simp [inv, a]

theorem inverse_eq {c : Fin 10 → EReal} {g : Fin 4 → Bool} {C : Fin 10 → ℝ} (F : Fits c g C) (k j : Fin 4) :
    inverse idealArith c k j = (inv g C k j : ℝ) := by
  have hz : z idealArith = ((0 : ℝ) : EReal) := F.z_eq
  fin_cases k <;> fin_cases j <;>
    first
    | exact hz
    | exact F.u00
    | exact F.u11
    | exact F.u22
    | exact F.u33
    | exact F.u10
    | exact F.u20
    | exact F.u21
    | exact F.u30
    | exact F.u31
    | exact F.u32

/-- A row of the symmetric matrix times the inverse. -/
def mix (g : Fin 4 → Bool) (C : Fin 10 → ℝ) (G : Fin 4 → ℝ) (j : Fin 4) : ℝ :=
  G 0 * inv g C 0 j + G 1 * inv g C 1 j + G 2 * inv g C 2 j + G 3 * inv g C 3 j

theorem mix_col (g : Fin 4 → Bool) (C : Fin 10 → ℝ) (G : Fin 4 → ℝ) (j : Fin 4) (h : mix g C G j ≠ 0) : g j = true := by
  by_contra hn
  exact h (by simp [mix, inv_col g C _ j hn])

theorem mull {E : EReal} {e r : ℝ} (h : r ≠ 0 → E = e) : (r : EReal) * E = ((r * e : ℝ) : EReal) := by
  rw [mul_comm, mulr h, mul_comm]

section
variable {c : Fin 10 → EReal} {g : Fin 4 → Bool} {C : Fin 10 → ℝ} (F : Fits c g C) (γ : Fin 4 → EReal) (G : Fin 4 → ℝ) (hG : ∀ k, γ k = (G k : ℝ))
include F hG
theorem q0_eq : idealArith.q0 c γ = (mix g C G 0 : ℝ) := by
  show γ 0 * idealArith.i0 c + γ 1 * idealArith.m10 c + γ 2 * idealArith.m20 c + γ 3 * idealArith.m30 c = _
  rw [F.i0, F.m10, F.m20, F.m30, hG, hG, hG, hG]
  simp only [mix, inv, Matrix.cons_val]
  norm_cast
theorem q1_eq : idealArith.q1 c γ = (mix g C G 1 : ℝ) := by
  show γ 1 * idealArith.i1 c + γ 2 * idealArith.m21 c + γ 3 * idealArith.m31 c = _
  rw [F.i1, F.m21, F.m31, hG, hG, hG]
  simp only [mix, inv, Matrix.cons_val, mul_zero, zero_add]
  norm_cast
theorem q2_eq : idealArith.q2 c γ = (mix g C G 2 : ℝ) := by
  show γ 2 * idealArith.i2 c + γ 3 * idealArith.m32 c = _
  rw [F.i2, F.m32, hG, hG]
  simp only [mix, inv, Matrix.cons_val, mul_zero, zero_add]
  norm_cast
theorem q3_eq : idealArith.q3 c γ = (mix g C G 3 : ℝ) := by
  show γ 3 * idealArith.i3 c = _
  rw [F.i3, hG]
  simp only [mix, inv, Matrix.cons_val, mul_zero, zero_add]
  norm_cast
end

/-- Real numbers taken from and added to the offset. -/
theorem offset (β : EReal) (a b c d e f g h : ℝ) :
    β - a - b - c - d + e + f + g + h = ((-a - b - c - d + e + f + g + h : ℝ) : EReal) + β := by
  simp only [sub_eq_add_neg, ← EReal.coe_neg, add_assoc, ← EReal.coe_add]
  rw [add_comm]

variable (x : Fin 32768 → Fin 4 → EReal)

theorem covs_eq (p : Fin 28 → EReal) (h1 : ∀ d : Fin 4, p ⟨d.val, by omega⟩ = ∑ b, x b d)
    (h2 : ∀ k : Fin 10, p ⟨4 + k.val, by omega⟩ = ∑ b, x b (row k) * x b (col k)) : idealArith.covs p = kcov x := by
  funext k
  have e : idealArith.covs p k = p ⟨4 + k.val, by omega⟩ * Ideal.ofBits .f32 0x38000000#32
      - p ⟨(row k).val, by omega⟩ * Ideal.ofBits .f32 0x38000000#32 * (p ⟨(col k).val, by omega⟩ * Ideal.ofBits .f32 0x38000000#32)
      + (if row k = col k then Ideal.ofBits .f32 0x3727C5AC#32 else 0) := by
    fin_cases k
    · rfl
    · exact (add_zero _).symm
    · rfl
    · exact (add_zero _).symm
    · exact (add_zero _).symm
    · rfl
    · exact (add_zero _).symm
    · exact (add_zero _).symm
    · exact (add_zero _).symm
    · rfl
  rw [e, h1, h1, h2]
  rfl

/-- The two results of a lane. -/
theorem lane_eq (p : Fin 28 → EReal) (γ : Fin 10 → EReal) (β : Fin 4 → EReal) (hγ : ∀ k, ¬ Inf (γ k))
    (h1 : ∀ d : Fin 4, p ⟨d.val, by omega⟩ = ∑ b, x b d) (h2 : ∀ k : Fin 10, p ⟨4 + k.val, by omega⟩ = ∑ b, x b (row k) * x b (col k))
    (h3 : ∀ k : Fin 10, p ⟨14 + k.val, by omega⟩ = γ k) (h4 : ∀ i : Fin 4, p ⟨24 + i.val, by omega⟩ = β i) (b : Fin 32768) (i : Fin 4) :
    applied (kcoef p) (x b) i
      = (∑ k : Fin 4, (∑ j : Fin 4, cent x b j * inverse idealArith (rcov x) k j) * gsym γ i k) + β i := by
  have hγ' : ∀ k, ∃ r : ℝ, γ k = r := fun k => (inf_or_real (γ k)).resolve_left (hγ k)
  choose r hr using hγ'
  obtain ⟨G, hG⟩ : ∃ G : Fin 4 → Fin 4 → ℝ, ∀ i k, gsym γ i k = (G i k : ℝ) := by
    refine ⟨![![r 0, r 1, r 3, r 6], ![r 1, r 2, r 4, r 7], ![r 3, r 4, r 5, r 8], ![r 6, r 7, r 8, r 9]], fun i k => ?_⟩
    fin_cases i <;> fin_cases k <;> exact hr _
  have hgam : ∀ i k, Arith.gam p i k = (G i k : ℝ) := by
    intro i k
    have e : Arith.gam p = gsym (fun k => p ⟨14 + k.val, by omega⟩) := rfl
    rw [← hG, e, show (fun k : Fin 10 => p ⟨14 + k.val, by omega⟩) = γ from funext h3]
  have FK := fits_kernel x
  have hc := covs_eq x p h1 h2
  set g := keep x
  set D := C x
  -- the kernel's side
  have hm : ∀ j : Fin 4, mix g D (G i) j ≠ 0 → idealArith.avg (p ⟨j.val, by omega⟩) = (mean x j : ℝ) := by
    intro j hj
    show p ⟨j.val, by omega⟩ * Ideal.ofBits .f32 0x38000000#32 = _
    rw [h1, lit_inv, sum_real x (mix_col g D (G i) j hj), mean, EReal.coe_mul]
  have hx : ∀ j : Fin 4, mix g D (G i) j ≠ 0 → x b j = (X x b j : ℝ) := fun j hj => x_real x (mix_col g D (G i) j hj) b
  have a0 : kcoef p ⟨4 * i.val, by omega⟩ = (mix g D (G i) 0 : ℝ) := by
    rw [← q0_eq FK (Arith.gam p i) (G i) (hgam i), ← hc]
    fin_cases i <;> rfl
  have a1 : kcoef p ⟨4 * i.val + 1, by omega⟩ = (mix g D (G i) 1 : ℝ) := by
    rw [← q1_eq FK (Arith.gam p i) (G i) (hgam i), ← hc]
    fin_cases i <;> rfl
  have a2 : kcoef p ⟨4 * i.val + 2, by omega⟩ = (mix g D (G i) 2 : ℝ) := by
    rw [← q2_eq FK (Arith.gam p i) (G i) (hgam i), ← hc]
    fin_cases i <;> rfl
  have a3 : kcoef p ⟨4 * i.val + 3, by omega⟩ = (mix g D (G i) 3 : ℝ) := by
    rw [← q3_eq FK (Arith.gam p i) (G i) (hgam i), ← hc]
    fin_cases i <;> rfl
  have hb : kcoef p ⟨16 + i.val, by omega⟩ = β i - ((mix g D (G i) 0 * mean x 0 : ℝ) : EReal) - ((mix g D (G i) 1 * mean x 1 : ℝ) : EReal)
      - ((mix g D (G i) 2 * mean x 2 : ℝ) : EReal) - ((mix g D (G i) 3 * mean x 3 : ℝ) : EReal) := by
    rw [← mull (hm 0), ← mull (hm 1), ← mull (hm 2), ← mull (hm 3), ← h4, ← q0_eq FK (Arith.gam p i) (G i) (hgam i), ← q1_eq FK (Arith.gam p i) (G i) (hgam i),
      ← q2_eq FK (Arith.gam p i) (G i) (hgam i), ← q3_eq FK (Arith.gam p i) (G i) (hgam i), ← hc]
    fin_cases i <;> rfl
  have lhs : applied (kcoef p) (x b) i = _ + _ * x b 0 + _ * x b 1 + _ * x b 2 + _ * x b 3 := rfl
  rw [lhs, a0, a1, a2, a3, hb, mull (hx 0), mull (hx 1), mull (hx 2), mull (hx 3), offset]
  -- the reference's side
  have hw : ∀ k : Fin 4, ∑ j : Fin 4, cent x b j * inverse idealArith (rcov x) k j = ((∑ j : Fin 4, Y x b j * inv g D k j : ℝ) : EReal) := by
    intro k
    rw [← sum_coe]
    refine Finset.sum_congr rfl fun j _ => ?_
    rw [inverse_eq (fits_reference x)]
    exact mulr fun hj => cent_real x (by by_contra hn; exact hj (inv_col g D k j hn)) b
  have hs : ∑ k : Fin 4, (∑ j : Fin 4, cent x b j * inverse idealArith (rcov x) k j) * gsym γ i k
      = ((∑ k : Fin 4, (∑ j : Fin 4, Y x b j * inv g D k j) * G i k : ℝ) : EReal) := by
    rw [← sum_coe]
    refine Finset.sum_congr rfl fun k _ => ?_
    rw [hw, hG, EReal.coe_mul]
  rw [hs]
  congr 2
  simp only [Fin.sum_univ_four, mix, Y]
  ring

end Cert.Whiten
-- ==== Proof.Value.lean ====
/- The kernel's result is the reference's, wherever gamma holds no infinity. -/
module

public import proofs.«01_k».proof.Defs
public import proofs.«01_k».proof.Proof.Agree
public import proofs.«01_k».proof.Proof.Same
public import proofs.«01_k».proof.Proof.Gen.ReferenceIdeal.Run
public import Idealize.ShloMosaic.Adequacy

@[expose] public section

set_option maxRecDepth 16384

noncomputable section

namespace Cert.Proof

open Idealize.ShloMosaic Idealize.ShloMosaic.TcCoe Idealize.ShloMosaic.Pointwise Idealize.SL.Sem
open Cert.KernelIdeal.Kit (argX argG argB kpar kcoef applied total idealArith W7)
open Cert.Whiten (Inf)

/-- The precondition's own side condition. -/
theorem pre_facts : Cert.Pre_finite.Facts where
  bcast_S_S512x10 := by decide

attribute [local instance] Cert.KernelIdeal.Gen.facts Cert.ReferenceIdeal.Gen.facts pre_facts

/-- A value whose size is below something is not infinite. -/
theorem not_inf_of_abs_lt {a t : EReal} (h : max a (-a) < t) : ¬ Inf a := by
  rintro (rfl | rfl)
  · exact absurd ((le_max_left _ _).trans_lt h) (not_lt_of_ge le_top)
  · refine absurd ((le_max_right _ _).trans_lt h) (not_lt_of_ge ?_)
    rw [EReal.neg_bot]; exact le_top

section
variable (m : (ℓ : Loc Cert.KernelIdeal.nD Cert.KernelIdeal.τ Cert.KernelIdeal.sig) → Buf (Elt Ideal) ℓ)

/-- What the precondition says of gamma. -/
theorem gamma_finite (h : Cert.Pre_KernelIdeal_finite m) (c : Dev Cert.KernelIdeal.nD) (f : Fin 512) (k : Fin 10) : ¬ Inf (argG m c f k) := by
  have e := congrFun (h c) (ix2 f k)
  have e' : BitVec.ofBool (decide (max (argG m c f k) (-(argG m c f k)) < Ideal.ofBits .f32 0x7F800000#32)) = 1#1 := e
  refine not_inf_of_abs_lt (t := Ideal.ofBits .f32 0x7F800000#32) ?_
  by_contra hn
  rw [decide_eq_false hn] at e'
  exact absurd e' (by decide)

/-- The two results at an index. -/
theorem results_agree (h : Cert.Pre_KernelIdeal_finite m) (c : Dev Cert.KernelIdeal.nD) (b : Fin 32768) (f : Fin 512) (i : Fin 4) :
    Cert.ReferenceIdeal.Read.val_main_v230 (F := Ideal)
        (Cert.KernelIdeal.Kit.W0 m c Cert.KernelIdeal.main_arg0) (Cert.KernelIdeal.Kit.W0 m c Cert.KernelIdeal.main_arg1)
        (Cert.KernelIdeal.Kit.W0 m c Cert.KernelIdeal.main_arg2) (ix3 b f i)
      = (W7 m c Cert.KernelIdeal.main_v20 : Cert.KernelIdeal.S32768x512x4.Idx → EReal) (ix3 b f i) := by
  rw [Cert.ReferenceIdeal.Lane.result_lane, Cert.KernelIdeal.Kit.result_apply]
  refine (Cert.Whiten.lane_eq (fun b d => argX m c b f d) (kpar m c f) (argG m c f) (argB m c f) (gamma_finite m h c f) ?_ ?_ ?_ ?_ b i).symm
  · intro d
    unfold kpar
    rw [dif_pos d.isLt]
    exact Cert.Whiten.total_eq _
  · intro k
    unfold kpar
    rw [dif_neg (show ¬ 4 + k.val < 4 by omega), dif_pos (show 4 + k.val < 14 by omega)]
    have e : (⟨4 + k.val - 4, by omega⟩ : Fin 10) = k := Fin.ext (by simp)
    rw [e]
    exact Cert.Whiten.total_eq _
  · intro k
    unfold kpar
    rw [dif_neg (show ¬ 14 + k.val < 4 by omega), dif_neg (show ¬ 14 + k.val < 14 by omega), dif_pos (show 14 + k.val < 24 by omega)]
    exact congrArg (argG m c f) (Fin.ext (by simp))
  · intro j
    unfold kpar
    rw [dif_neg (show ¬ 24 + j.val < 4 by omega), dif_neg (show ¬ 24 + j.val < 14 by omega), dif_neg (show ¬ 24 + j.val < 24 by omega)]
    exact congrArg (argB m c f) (Fin.ext (by simp))

/-- The two result arrays. -/
theorem arrays_agree (h : Cert.Pre_KernelIdeal_finite m) (c : Dev Cert.KernelIdeal.nD) :
    Cert.ReferenceIdeal.Read.val_main_v230 (F := Ideal)
        (Cert.KernelIdeal.Kit.W0 m c Cert.KernelIdeal.main_arg0) (Cert.KernelIdeal.Kit.W0 m c Cert.KernelIdeal.main_arg1)
        (Cert.KernelIdeal.Kit.W0 m c Cert.KernelIdeal.main_arg2)
      = (W7 m c Cert.KernelIdeal.main_v20 : Cert.KernelIdeal.S32768x512x4.Idx → EReal) := by
  funext j
  have e : j = ix3 (j 0) (j 1) (j 2) := by funext a; fin_cases a <;> rfl
  rw [e]
  exact results_agree m h c _ _ _
end

/-- Both programs run, end with equal results and leave their arguments as they were. -/
theorem algebraic : Cert.algebraic_KernelIdeal_ReferenceIdeal_pre_finite := by
  intro m g m' g' hpre hargs
  refine ⟨fun c => W7 m c Cert.KernelIdeal.main_v20,
    (θ_run _ _ _).mono (fun _ h => h.1) (Cert.KernelIdeal.Kit.run_named m g),
    (θ_run _ _ _).mono (fun r h c => ⟨?_, (h c).2⟩) (Cert.ReferenceIdeal.Value.run m' g')⟩
  refine (h c).1.trans ((Cert.ReferenceIdeal.Read.val_main_v230_eq _).trans ?_)
  obtain ⟨h0, h1, h2⟩ := hargs c
  refine Eq.trans ?_ (arrays_agree m hpre c)
  show Cert.ReferenceIdeal.Read.val_main_v230 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [h0, h1, h2]

/-- The reference's frame: its run, and the counters because it declares no semaphore. -/
theorem reference_frame : Cert.quiescent_ReferenceIdeal := fun m g _ =>
  (θ_run _ _ _).mono (fun r h => ⟨fun c => (h c).2, sem_eq_zero_of_no_sems (by decide) r.2⟩)
    (Cert.ReferenceIdeal.Value.run m g)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts pre_facts

/-- The certificate. -/
theorem claim : Cert.Claim := ⟨Cert.Kernel.Gen.facts, Cert.KernelIdeal.Gen.facts, Cert.ReferenceIdeal.Gen.facts, pre_facts,
  kernel_frame, kernelIdeal_frame, fun m g _ => kernelIdeal_frame m g trivial,
  reference_frame, fun m g _ => reference_frame m g trivial, trivial, algebraic⟩

end Cert.Proof

end
